-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256x256 : Shape := ⟨3, ![1024, 256, 256]⟩
abbrev S1024x32896 : Shape := ⟨2, ![1024, 32896]⟩
abbrev S128x256 : Shape := ⟨2, ![128, 256]⟩
abbrev S128x128 : Shape := ⟨2, ![128, 128]⟩
abbrev S32896 : Shape := ⟨1, ![32896]⟩
abbrev S_ : Shape := ⟨0, ![]⟩
abbrev S1x128x256 : Shape := ⟨3, ![1, 128, 256]⟩
abbrev S1x128x128 : Shape := ⟨3, ![1, 128, 128]⟩
abbrev S1x32896 : Shape := ⟨2, ![1, 32896]⟩
abbrev S1x16 : Shape := ⟨2, ![1, 16]⟩
abbrev S16 : Shape := ⟨1, ![16]⟩

abbrev nBuf : Table → Nat
  | .hbm => 2
  | .local .scVector .vmem => 4
  | _ => 0

abbrev bufTy : (tb : Table) → Fin (nBuf tb) → BufTy
  | .hbm, ⟨0, _⟩ => ⟨S1024x256x256, .f32⟩
  | .hbm, ⟨1, _⟩ => ⟨S1024x32896, .f32⟩
  | .local .scVector .vmem, ⟨0, _⟩ => ⟨S128x256, .f32⟩
  | .local .scVector .vmem, ⟨1, _⟩ => ⟨S128x128, .f32⟩
  | .local .scVector .vmem, ⟨2, _⟩ => ⟨S32896, .f32⟩
  | .local .scVector .vmem, ⟨3, _⟩ => ⟨S32896, .f32⟩
  | _, _ => ⟨S1024x256x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_0 : BitVec 32 := 0#32
  ![v1.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let c128_i32_3 : BitVec 32 := 128#32
  ![v1.toNat, 128, 128]
@[reducible] def k0_t1_loop : Scf.Loop 32 :=
  let c0_i32_7 : BitVec 32 := 0#32
  let c16_i32 : BitVec 32 := 16#32
  let v10 : BitVec 32 := Scalar.addi c0_i32_7 c16_i32
  let c1_i32 : BitVec 32 := 1#32
  ⟨c0_i32_7, v10, c1_i32⟩
def k0_off3 (i : grid0.Coords) (k0_t1 : Fin k0_t1_loop.trips) : Fin 3 → Nat :=
  let c2_i32_17 : BitVec 32 := 2#32
  let c0_i32_7 : BitVec 32 := 0#32
  let c1_i32 : BitVec 32 := 1#32
  let arg12 : BitVec 32 := Scf.iv c0_i32_7 c1_i32 k0_t1
  let v25 : BitVec 32 := Scalar.muli c2_i32_17 arg12
  let c32_i32 : BitVec 32 := 32#32
  let v26 : BitVec 32 := Scalar.muli v25 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v27 : BitVec 32 := Scalar.addi v26 v1
  let c0_i32_24 : BitVec 32 := 0#32
  let c0_i32_25 : BitVec 32 := 0#32
  ![v27.toNat, 0, 0]
def k0_cond1 (k0_t1 : Fin k0_t1_loop.trips) : BitVec 1 :=
  let c0_i32_7 : BitVec 32 := 0#32
  let c1_i32 : BitVec 32 := 1#32
  let arg12 : BitVec 32 := Scf.iv c0_i32_7 c1_i32 k0_t1
  let c0_i32_28 : BitVec 32 := 0#32
  let v40 : BitVec 1 := Scalar.cmpi .sgt arg12 c0_i32_28
  let v41 : BitVec 32 := Scalar.extui v40
  let c0_i32_29 : BitVec 32 := 0#32
  let v42 : BitVec 1 := Scalar.cmpi .ne v41 c0_i32_29
  v42

def k0_off4 (i : grid0.Coords) (k0_t1 : Fin k0_t1_loop.trips) : Fin 2 → Nat :=
  let c2_i32_17 : BitVec 32 := 2#32
  let c0_i32_7 : BitVec 32 := 0#32
  let c1_i32 : BitVec 32 := 1#32
  let arg12 : BitVec 32 := Scf.iv c0_i32_7 c1_i32 k0_t1
  let v25 : BitVec 32 := Scalar.muli c2_i32_17 arg12
  let c32_i32 : BitVec 32 := 32#32
  let v26 : BitVec 32 := Scalar.muli v25 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v27 : BitVec 32 := Scalar.addi v26 v1
  let c0_i32_93 : BitVec 32 := 0#32
  ![v27.toNat, 0]
@[reducible] def k0_t2_loop : Scf.Loop 32 :=
  let c0_i32_30 : BitVec 32 := 0#32
  let c128_i32_31 : BitVec 32 := 128#32
  let v43 : BitVec 32 := Scalar.addi c0_i32_30 c128_i32_31
  let c1_i32_32 : BitVec 32 := 1#32
  ⟨c0_i32_30, v43, c1_i32_32⟩
def k0_off5 (k0_t2 : Fin k0_t2_loop.trips) : Fin 2 → Nat :=
  let c127_i32 : BitVec 32 := 127#32
  let c0_i32_30 : BitVec 32 := 0#32
  let c1_i32_32 : BitVec 32 := 1#32
  let arg13 : BitVec 32 := Scf.iv c0_i32_30 c1_i32_32 k0_t2
  let v96 : BitVec 32 := Scalar.subi c127_i32 arg13
  let v97 : Index := Scalar.indexCast v96
  let c0 : Index := 0#32
  ![v97.toNat, 0]
def k0_off6 (arg14 : BitVec 32) (c0_i32_92 : BitVec 32) : Fin 1 → Nat :=
  let v100 : BitVec 32 := Scalar.addi arg14 c0_i32_92
  let v101 : Index := Scalar.indexCast v100
  ![v101.toNat]

def k0_chk1 (arg14 : BitVec 32) : Prop :=
  (∀ (r : Fin 8), ∀ a, (k0_off6 arg14 (BitVec.ofNat 32 (16 * r.val))) a + S16.size a ≤ S32896.size a)
theorem k0_off6_inb : ∀ (arg14 : BitVec 32) (k0_hw1 : k0_chk1 arg14), ∀ (r : Fin 8), ∀ a, (k0_off6 arg14 (BitVec.ofNat 32 (16 * r.val))) a + S16.size a ≤ S32896.size a := fun arg14 k0_hw1 r => k0_hw1 r

def k0_off7 (k0_t2 : Fin k0_t2_loop.trips) : Fin 2 → Nat :=
  let c127_i32 : BitVec 32 := 127#32
  let c0_i32_30 : BitVec 32 := 0#32
  let c1_i32_32 : BitVec 32 := 1#32
  let arg13 : BitVec 32 := Scf.iv c0_i32_30 c1_i32_32 k0_t2
  let v96 : BitVec 32 := Scalar.subi c127_i32 arg13
  let v105 : Index := Scalar.indexCast v96
  let c16 : Index := 16#32
  ![v105.toNat, 16]
def k0_off8 (k0_t2 : Fin k0_t2_loop.trips) : Fin 2 → Nat :=
  let c127_i32 : BitVec 32 := 127#32
  let c0_i32_30 : BitVec 32 := 0#32
  let c1_i32_32 : BitVec 32 := 1#32
  let arg13 : BitVec 32 := Scf.iv c0_i32_30 c1_i32_32 k0_t2
  let v96 : BitVec 32 := Scalar.subi c127_i32 arg13
  let v113 : Index := Scalar.indexCast v96
  let c32 : Index := 32#32
  ![v113.toNat, 32]
def k0_off9 (k0_t2 : Fin k0_t2_loop.trips) : Fin 2 → Nat :=
  let c127_i32 : BitVec 32 := 127#32
  let c0_i32_30 : BitVec 32 := 0#32
  let c1_i32_32 : BitVec 32 := 1#32
  let arg13 : BitVec 32 := Scf.iv c0_i32_30 c1_i32_32 k0_t2
  let v96 : BitVec 32 := Scalar.subi c127_i32 arg13
  let v121 : Index := Scalar.indexCast v96
  let c48 : Index := 48#32
  ![v121.toNat, 48]
def k0_off10 (k0_t2 : Fin k0_t2_loop.trips) : Fin 2 → Nat :=
  let c127_i32 : BitVec 32 := 127#32
  let c0_i32_30 : BitVec 32 := 0#32
  let c1_i32_32 : BitVec 32 := 1#32
  let arg13 : BitVec 32 := Scf.iv c0_i32_30 c1_i32_32 k0_t2
  let v96 : BitVec 32 := Scalar.subi c127_i32 arg13
  let v129 : Index := Scalar.indexCast v96
  let c64 : Index := 64#32
  ![v129.toNat, 64]
def k0_off11 (k0_t2 : Fin k0_t2_loop.trips) : Fin 2 → Nat :=
  let c127_i32 : BitVec 32 := 127#32
  let c0_i32_30 : BitVec 32 := 0#32
  let c1_i32_32 : BitVec 32 := 1#32
  let arg13 : BitVec 32 := Scf.iv c0_i32_30 c1_i32_32 k0_t2
  let v96 : BitVec 32 := Scalar.subi c127_i32 arg13
  let v137 : Index := Scalar.indexCast v96
  let c80 : Index := 80#32
  ![v137.toNat, 80]
def k0_off12 (k0_t2 : Fin k0_t2_loop.trips) : Fin 2 → Nat :=
  let c127_i32 : BitVec 32 := 127#32
  let c0_i32_30 : BitVec 32 := 0#32
  let c1_i32_32 : BitVec 32 := 1#32
  let arg13 : BitVec 32 := Scf.iv c0_i32_30 c1_i32_32 k0_t2
  let v96 : BitVec 32 := Scalar.subi c127_i32 arg13
  let v145 : Index := Scalar.indexCast v96
  let c96 : Index := 96#32
  ![v145.toNat, 96]
def k0_off13 (k0_t2 : Fin k0_t2_loop.trips) : Fin 2 → Nat :=
  let c127_i32 : BitVec 32 := 127#32
  let c0_i32_30 : BitVec 32 := 0#32
  let c1_i32_32 : BitVec 32 := 1#32
  let arg13 : BitVec 32 := Scf.iv c0_i32_30 c1_i32_32 k0_t2
  let v96 : BitVec 32 := Scalar.subi c127_i32 arg13
  let v153 : Index := Scalar.indexCast v96
  let c112 : Index := 112#32
  ![v153.toNat, 112]
@[reducible] def k0_t3_loop : Scf.Loop 32 :=
  let c0_i32_35 : BitVec 32 := 0#32
  let c128_i32_36 : BitVec 32 := 128#32
  let v45 : BitVec 32 := Scalar.addi c0_i32_35 c128_i32_36
  let c1_i32_37 : BitVec 32 := 1#32
  ⟨c0_i32_35, v45, c1_i32_37⟩
def k0_off14 (k0_t3 : Fin k0_t3_loop.trips) : Fin 2 → Nat :=
  let c0_i32_35 : BitVec 32 := 0#32
  let c1_i32_37 : BitVec 32 := 1#32
  let arg13 : BitVec 32 := Scf.iv c0_i32_35 c1_i32_37 k0_t3
  let v96 : Index := Scalar.indexCast arg13
  let c128 : Index := 128#32
  ![v96.toNat, 128]
def k0_off15 (arg14 : BitVec 32) (c0_i32_92 : BitVec 32) : Fin 1 → Nat :=
  let v99 : BitVec 32 := Scalar.addi arg14 c0_i32_92
  let v100 : Index := Scalar.indexCast v99
  ![v100.toNat]

def k0_chk2 (arg14 : BitVec 32) : Prop :=
  (∀ (r : Fin 8), ∀ a, (k0_off15 arg14 (BitVec.ofNat 32 (16 * r.val))) a + S16.size a ≤ S32896.size a)
theorem k0_off15_inb : ∀ (arg14 : BitVec 32) (k0_hw2 : k0_chk2 arg14), ∀ (r : Fin 8), ∀ a, (k0_off15 arg14 (BitVec.ofNat 32 (16 * r.val))) a + S16.size a ≤ S32896.size a := fun arg14 k0_hw2 r => k0_hw2 r

def k0_off16 (k0_t3 : Fin k0_t3_loop.trips) : Fin 2 → Nat :=
  let c0_i32_35 : BitVec 32 := 0#32
  let c1_i32_37 : BitVec 32 := 1#32
  let arg13 : BitVec 32 := Scf.iv c0_i32_35 c1_i32_37 k0_t3
  let v104 : Index := Scalar.indexCast arg13
  let c144 : Index := 144#32
  ![v104.toNat, 144]
def k0_off17 (k0_t3 : Fin k0_t3_loop.trips) : Fin 2 → Nat :=
  let c0_i32_35 : BitVec 32 := 0#32
  let c1_i32_37 : BitVec 32 := 1#32
  let arg13 : BitVec 32 := Scf.iv c0_i32_35 c1_i32_37 k0_t3
  let v112 : Index := Scalar.indexCast arg13
  let c160 : Index := 160#32
  ![v112.toNat, 160]
def k0_off18 (k0_t3 : Fin k0_t3_loop.trips) : Fin 2 → Nat :=
  let c0_i32_35 : BitVec 32 := 0#32
  let c1_i32_37 : BitVec 32 := 1#32
  let arg13 : BitVec 32 := Scf.iv c0_i32_35 c1_i32_37 k0_t3
  let v120 : Index := Scalar.indexCast arg13
  let c176 : Index := 176#32
  ![v120.toNat, 176]
def k0_off19 (k0_t3 : Fin k0_t3_loop.trips) : Fin 2 → Nat :=
  let c0_i32_35 : BitVec 32 := 0#32
  let c1_i32_37 : BitVec 32 := 1#32
  let arg13 : BitVec 32 := Scf.iv c0_i32_35 c1_i32_37 k0_t3
  let v128 : Index := Scalar.indexCast arg13
  let c192 : Index := 192#32
  ![v128.toNat, 192]
def k0_off20 (k0_t3 : Fin k0_t3_loop.trips) : Fin 2 → Nat :=
  let c0_i32_35 : BitVec 32 := 0#32
  let c1_i32_37 : BitVec 32 := 1#32
  let arg13 : BitVec 32 := Scf.iv c0_i32_35 c1_i32_37 k0_t3
  let v136 : Index := Scalar.indexCast arg13
  let c208 : Index := 208#32
  ![v136.toNat, 208]
def k0_off21 (k0_t3 : Fin k0_t3_loop.trips) : Fin 2 → Nat :=
  let c0_i32_35 : BitVec 32 := 0#32
  let c1_i32_37 : BitVec 32 := 1#32
  let arg13 : BitVec 32 := Scf.iv c0_i32_35 c1_i32_37 k0_t3
  let v144 : Index := Scalar.indexCast arg13
  let c224 : Index := 224#32
  ![v144.toNat, 224]
def k0_off22 (k0_t3 : Fin k0_t3_loop.trips) : Fin 2 → Nat :=
  let c0_i32_35 : BitVec 32 := 0#32
  let c1_i32_37 : BitVec 32 := 1#32
  let arg13 : BitVec 32 := Scf.iv c0_i32_35 c1_i32_37 k0_t3
  let v152 : Index := Scalar.indexCast arg13
  let c240 : Index := 240#32
  ![v152.toNat, 240]
def k0_off23 (i : grid0.Coords) (k0_t1 : Fin k0_t1_loop.trips) : Fin 3 → Nat :=
  let c2_i32_18 : BitVec 32 := 2#32
  let c0_i32_7 : BitVec 32 := 0#32
  let c1_i32 : BitVec 32 := 1#32
  let arg12 : BitVec 32 := Scf.iv c0_i32_7 c1_i32 k0_t1
  let v28 : BitVec 32 := Scalar.muli c2_i32_18 arg12
  let c1_i32_19 : BitVec 32 := 1#32
  let v29 : BitVec 32 := Scalar.addi v28 c1_i32_19
  let c32_i32_20 : BitVec 32 := 32#32
  let v30 : BitVec 32 := Scalar.muli v29 c32_i32_20
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v31 : BitVec 32 := Scalar.addi v30 v1
  let c0_i32_39 : BitVec 32 := 0#32
  let c0_i32_40 : BitVec 32 := 0#32
  ![v31.toNat, 0, 0]
def k0_off24 (i : grid0.Coords) (k0_t1 : Fin k0_t1_loop.trips) : Fin 3 → Nat :=
  let c2_i32_17 : BitVec 32 := 2#32
  let c0_i32_7 : BitVec 32 := 0#32
  let c1_i32 : BitVec 32 := 1#32
  let arg12 : BitVec 32 := Scf.iv c0_i32_7 c1_i32 k0_t1
  let v25 : BitVec 32 := Scalar.muli c2_i32_17 arg12
  let c32_i32 : BitVec 32 := 32#32
  let v26 : BitVec 32 := Scalar.muli v25 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v27 : BitVec 32 := Scalar.addi v26 v1
  let c128_i32_43 : BitVec 32 := 128#32
  let c128_i32_44 : BitVec 32 := 128#32
  ![v27.toNat, 128, 128]
@[reducible] def k0_t4_loop : Scf.Loop 32 :=
  let c0_i32_47 : BitVec 32 := 0#32
  let c128_i32_48 : BitVec 32 := 128#32
  let v55 : BitVec 32 := Scalar.addi c0_i32_47 c128_i32_48
  let c1_i32_49 : BitVec 32 := 1#32
  ⟨c0_i32_47, v55, c1_i32_49⟩
def k0_off25 (k0_t4 : Fin k0_t4_loop.trips) : Fin 2 → Nat :=
  let c127_i32 : BitVec 32 := 127#32
  let c0_i32_47 : BitVec 32 := 0#32
  let c1_i32_49 : BitVec 32 := 1#32
  let arg13 : BitVec 32 := Scf.iv c0_i32_47 c1_i32_49 k0_t4
  let v96 : BitVec 32 := Scalar.subi c127_i32 arg13
  let v97 : Index := Scalar.indexCast v96
  let c0 : Index := 0#32
  ![v97.toNat, 0]
def k0_off26 (arg14 : BitVec 32) (c0_i32_92 : BitVec 32) : Fin 1 → Nat :=
  let v100 : BitVec 32 := Scalar.addi arg14 c0_i32_92
  let v101 : Index := Scalar.indexCast v100
  ![v101.toNat]

def k0_chk3 (arg14 : BitVec 32) : Prop :=
  (∀ (r : Fin 8), ∀ a, (k0_off26 arg14 (BitVec.ofNat 32 (16 * r.val))) a + S16.size a ≤ S32896.size a)
theorem k0_off26_inb : ∀ (arg14 : BitVec 32) (k0_hw3 : k0_chk3 arg14), ∀ (r : Fin 8), ∀ a, (k0_off26 arg14 (BitVec.ofNat 32 (16 * r.val))) a + S16.size a ≤ S32896.size a := fun arg14 k0_hw3 r => k0_hw3 r

def k0_off27 (k0_t4 : Fin k0_t4_loop.trips) : Fin 2 → Nat :=
  let c127_i32 : BitVec 32 := 127#32
  let c0_i32_47 : BitVec 32 := 0#32
  let c1_i32_49 : BitVec 32 := 1#32
  let arg13 : BitVec 32 := Scf.iv c0_i32_47 c1_i32_49 k0_t4
  let v96 : BitVec 32 := Scalar.subi c127_i32 arg13
  let v105 : Index := Scalar.indexCast v96
  let c16 : Index := 16#32
  ![v105.toNat, 16]
def k0_off28 (k0_t4 : Fin k0_t4_loop.trips) : Fin 2 → Nat :=
  let c127_i32 : BitVec 32 := 127#32
  let c0_i32_47 : BitVec 32 := 0#32
  let c1_i32_49 : BitVec 32 := 1#32
  let arg13 : BitVec 32 := Scf.iv c0_i32_47 c1_i32_49 k0_t4
  let v96 : BitVec 32 := Scalar.subi c127_i32 arg13
  let v113 : Index := Scalar.indexCast v96
  let c32 : Index := 32#32
  ![v113.toNat, 32]
def k0_off29 (k0_t4 : Fin k0_t4_loop.trips) : Fin 2 → Nat :=
  let c127_i32 : BitVec 32 := 127#32
  let c0_i32_47 : BitVec 32 := 0#32
  let c1_i32_49 : BitVec 32 := 1#32
  let arg13 : BitVec 32 := Scf.iv c0_i32_47 c1_i32_49 k0_t4
  let v96 : BitVec 32 := Scalar.subi c127_i32 arg13
  let v121 : Index := Scalar.indexCast v96
  let c48 : Index := 48#32
  ![v121.toNat, 48]
def k0_off30 (k0_t4 : Fin k0_t4_loop.trips) : Fin 2 → Nat :=
  let c127_i32 : BitVec 32 := 127#32
  let c0_i32_47 : BitVec 32 := 0#32
  let c1_i32_49 : BitVec 32 := 1#32
  let arg13 : BitVec 32 := Scf.iv c0_i32_47 c1_i32_49 k0_t4
  let v96 : BitVec 32 := Scalar.subi c127_i32 arg13
  let v129 : Index := Scalar.indexCast v96
  let c64 : Index := 64#32
  ![v129.toNat, 64]
def k0_off31 (k0_t4 : Fin k0_t4_loop.trips) : Fin 2 → Nat :=
  let c127_i32 : BitVec 32 := 127#32
  let c0_i32_47 : BitVec 32 := 0#32
  let c1_i32_49 : BitVec 32 := 1#32
  let arg13 : BitVec 32 := Scf.iv c0_i32_47 c1_i32_49 k0_t4
  let v96 : BitVec 32 := Scalar.subi c127_i32 arg13
  let v137 : Index := Scalar.indexCast v96
  let c80 : Index := 80#32
  ![v137.toNat, 80]
def k0_off32 (k0_t4 : Fin k0_t4_loop.trips) : Fin 2 → Nat :=
  let c127_i32 : BitVec 32 := 127#32
  let c0_i32_47 : BitVec 32 := 0#32
  let c1_i32_49 : BitVec 32 := 1#32
  let arg13 : BitVec 32 := Scf.iv c0_i32_47 c1_i32_49 k0_t4
  let v96 : BitVec 32 := Scalar.subi c127_i32 arg13
  let v145 : Index := Scalar.indexCast v96
  let c96 : Index := 96#32
  ![v145.toNat, 96]
def k0_off33 (k0_t4 : Fin k0_t4_loop.trips) : Fin 2 → Nat :=
  let c127_i32 : BitVec 32 := 127#32
  let c0_i32_47 : BitVec 32 := 0#32
  let c1_i32_49 : BitVec 32 := 1#32
  let arg13 : BitVec 32 := Scf.iv c0_i32_47 c1_i32_49 k0_t4
  let v96 : BitVec 32 := Scalar.subi c127_i32 arg13
  let v153 : Index := Scalar.indexCast v96
  let c112 : Index := 112#32
  ![v153.toNat, 112]
def k0_off34 (i : grid0.Coords) (k0_t1 : Fin k0_t1_loop.trips) : Fin 3 → Nat :=
  let c2_i32_18 : BitVec 32 := 2#32
  let c0_i32_7 : BitVec 32 := 0#32
  let c1_i32 : BitVec 32 := 1#32
  let arg12 : BitVec 32 := Scf.iv c0_i32_7 c1_i32 k0_t1
  let v28 : BitVec 32 := Scalar.muli c2_i32_18 arg12
  let c1_i32_19 : BitVec 32 := 1#32
  let v29 : BitVec 32 := Scalar.addi v28 c1_i32_19
  let c32_i32_20 : BitVec 32 := 32#32
  let v30 : BitVec 32 := Scalar.muli v29 c32_i32_20
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v31 : BitVec 32 := Scalar.addi v30 v1
  let c128_i32_51 : BitVec 32 := 128#32
  let c128_i32_52 : BitVec 32 := 128#32
  ![v31.toNat, 128, 128]
def k0_off35 (i : grid0.Coords) (k0_t1 : Fin k0_t1_loop.trips) : Fin 2 → Nat :=
  let c2_i32_17 : BitVec 32 := 2#32
  let c0_i32_7 : BitVec 32 := 0#32
  let c1_i32 : BitVec 32 := 1#32
  let arg12 : BitVec 32 := Scf.iv c0_i32_7 c1_i32 k0_t1
  let v25 : BitVec 32 := Scalar.muli c2_i32_17 arg12
  let c32_i32 : BitVec 32 := 32#32
  let v26 : BitVec 32 := Scalar.muli v25 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v27 : BitVec 32 := Scalar.addi v26 v1
  let c0_i32_56 : BitVec 32 := 0#32
  ![v27.toNat, 0]
def k0_cond2 (k0_t1 : Fin k0_t1_loop.trips) : BitVec 1 :=
  let c0_i32_7 : BitVec 32 := 0#32
  let c1_i32 : BitVec 32 := 1#32
  let arg12 : BitVec 32 := Scf.iv c0_i32_7 c1_i32 k0_t1
  let c0_i32_65 : BitVec 32 := 0#32
  let v73 : BitVec 1 := Scalar.cmpi .sgt arg12 c0_i32_65
  let v74 : BitVec 32 := Scalar.extui v73
  let c0_i32_66 : BitVec 32 := 0#32
  let v75 : BitVec 1 := Scalar.cmpi .ne v74 c0_i32_66
  v75

def k0_off36 (i : grid0.Coords) (k0_t1 : Fin k0_t1_loop.trips) : Fin 2 → Nat :=
  let c2_i32_18 : BitVec 32 := 2#32
  let c0_i32_7 : BitVec 32 := 0#32
  let c1_i32 : BitVec 32 := 1#32
  let arg12 : BitVec 32 := Scf.iv c0_i32_7 c1_i32 k0_t1
  let v28 : BitVec 32 := Scalar.muli c2_i32_18 arg12
  let c1_i32_19 : BitVec 32 := 1#32
  let v29 : BitVec 32 := Scalar.addi v28 c1_i32_19
  let c32_i32_20 : BitVec 32 := 32#32
  let v30 : BitVec 32 := Scalar.muli v29 c32_i32_20
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v31 : BitVec 32 := Scalar.addi v30 v1
  let c0_i32_93 : BitVec 32 := 0#32
  ![v31.toNat, 0]
@[reducible] def k0_t5_loop : Scf.Loop 32 :=
  let c0_i32_68 : BitVec 32 := 0#32
  let c128_i32_69 : BitVec 32 := 128#32
  let v76 : BitVec 32 := Scalar.addi c0_i32_68 c128_i32_69
  let c1_i32_70 : BitVec 32 := 1#32
  ⟨c0_i32_68, v76, c1_i32_70⟩
def k0_off37 (k0_t5 : Fin k0_t5_loop.trips) : Fin 2 → Nat :=
  let c127_i32 : BitVec 32 := 127#32
  let c0_i32_68 : BitVec 32 := 0#32
  let c1_i32_70 : BitVec 32 := 1#32
  let arg13 : BitVec 32 := Scf.iv c0_i32_68 c1_i32_70 k0_t5
  let v96 : BitVec 32 := Scalar.subi c127_i32 arg13
  let v97 : Index := Scalar.indexCast v96
  let c0 : Index := 0#32
  ![v97.toNat, 0]
def k0_off38 (arg14 : BitVec 32) (c0_i32_92 : BitVec 32) : Fin 1 → Nat :=
  let v100 : BitVec 32 := Scalar.addi arg14 c0_i32_92
  let v101 : Index := Scalar.indexCast v100
  ![v101.toNat]

def k0_chk4 (arg14 : BitVec 32) : Prop :=
  (∀ (r : Fin 8), ∀ a, (k0_off38 arg14 (BitVec.ofNat 32 (16 * r.val))) a + S16.size a ≤ S32896.size a)
theorem k0_off38_inb : ∀ (arg14 : BitVec 32) (k0_hw4 : k0_chk4 arg14), ∀ (r : Fin 8), ∀ a, (k0_off38 arg14 (BitVec.ofNat 32 (16 * r.val))) a + S16.size a ≤ S32896.size a := fun arg14 k0_hw4 r => k0_hw4 r

def k0_off39 (k0_t5 : Fin k0_t5_loop.trips) : Fin 2 → Nat :=
  let c127_i32 : BitVec 32 := 127#32
  let c0_i32_68 : BitVec 32 := 0#32
  let c1_i32_70 : BitVec 32 := 1#32
  let arg13 : BitVec 32 := Scf.iv c0_i32_68 c1_i32_70 k0_t5
  let v96 : BitVec 32 := Scalar.subi c127_i32 arg13
  let v105 : Index := Scalar.indexCast v96
  let c16 : Index := 16#32
  ![v105.toNat, 16]
def k0_off40 (k0_t5 : Fin k0_t5_loop.trips) : Fin 2 → Nat :=
  let c127_i32 : BitVec 32 := 127#32
  let c0_i32_68 : BitVec 32 := 0#32
  let c1_i32_70 : BitVec 32 := 1#32
  let arg13 : BitVec 32 := Scf.iv c0_i32_68 c1_i32_70 k0_t5
  let v96 : BitVec 32 := Scalar.subi c127_i32 arg13
  let v113 : Index := Scalar.indexCast v96
  let c32 : Index := 32#32
  ![v113.toNat, 32]
def k0_off41 (k0_t5 : Fin k0_t5_loop.trips) : Fin 2 → Nat :=
  let c127_i32 : BitVec 32 := 127#32
  let c0_i32_68 : BitVec 32 := 0#32
  let c1_i32_70 : BitVec 32 := 1#32
  let arg13 : BitVec 32 := Scf.iv c0_i32_68 c1_i32_70 k0_t5
  let v96 : BitVec 32 := Scalar.subi c127_i32 arg13
  let v121 : Index := Scalar.indexCast v96
  let c48 : Index := 48#32
  ![v121.toNat, 48]
def k0_off42 (k0_t5 : Fin k0_t5_loop.trips) : Fin 2 → Nat :=
  let c127_i32 : BitVec 32 := 127#32
  let c0_i32_68 : BitVec 32 := 0#32
  let c1_i32_70 : BitVec 32 := 1#32
  let arg13 : BitVec 32 := Scf.iv c0_i32_68 c1_i32_70 k0_t5
  let v96 : BitVec 32 := Scalar.subi c127_i32 arg13
  let v129 : Index := Scalar.indexCast v96
  let c64 : Index := 64#32
  ![v129.toNat, 64]
def k0_off43 (k0_t5 : Fin k0_t5_loop.trips) : Fin 2 → Nat :=
  let c127_i32 : BitVec 32 := 127#32
  let c0_i32_68 : BitVec 32 := 0#32
  let c1_i32_70 : BitVec 32 := 1#32
  let arg13 : BitVec 32 := Scf.iv c0_i32_68 c1_i32_70 k0_t5
  let v96 : BitVec 32 := Scalar.subi c127_i32 arg13
  let v137 : Index := Scalar.indexCast v96
  let c80 : Index := 80#32
  ![v137.toNat, 80]
def k0_off44 (k0_t5 : Fin k0_t5_loop.trips) : Fin 2 → Nat :=
  let c127_i32 : BitVec 32 := 127#32
  let c0_i32_68 : BitVec 32 := 0#32
  let c1_i32_70 : BitVec 32 := 1#32
  let arg13 : BitVec 32 := Scf.iv c0_i32_68 c1_i32_70 k0_t5
  let v96 : BitVec 32 := Scalar.subi c127_i32 arg13
  let v145 : Index := Scalar.indexCast v96
  let c96 : Index := 96#32
  ![v145.toNat, 96]
def k0_off45 (k0_t5 : Fin k0_t5_loop.trips) : Fin 2 → Nat :=
  let c127_i32 : BitVec 32 := 127#32
  let c0_i32_68 : BitVec 32 := 0#32
  let c1_i32_70 : BitVec 32 := 1#32
  let arg13 : BitVec 32 := Scf.iv c0_i32_68 c1_i32_70 k0_t5
  let v96 : BitVec 32 := Scalar.subi c127_i32 arg13
  let v153 : Index := Scalar.indexCast v96
  let c112 : Index := 112#32
  ![v153.toNat, 112]
@[reducible] def k0_t6_loop : Scf.Loop 32 :=
  let c0_i32_73 : BitVec 32 := 0#32
  let c128_i32_74 : BitVec 32 := 128#32
  let v78 : BitVec 32 := Scalar.addi c0_i32_73 c128_i32_74
  let c1_i32_75 : BitVec 32 := 1#32
  ⟨c0_i32_73, v78, c1_i32_75⟩
def k0_off46 (k0_t6 : Fin k0_t6_loop.trips) : Fin 2 → Nat :=
  let c0_i32_73 : BitVec 32 := 0#32
  let c1_i32_75 : BitVec 32 := 1#32
  let arg13 : BitVec 32 := Scf.iv c0_i32_73 c1_i32_75 k0_t6
  let v96 : Index := Scalar.indexCast arg13
  let c128 : Index := 128#32
  ![v96.toNat, 128]
def k0_off47 (arg14 : BitVec 32) (c0_i32_92 : BitVec 32) : Fin 1 → Nat :=
  let v99 : BitVec 32 := Scalar.addi arg14 c0_i32_92
  let v100 : Index := Scalar.indexCast v99
  ![v100.toNat]

def k0_chk5 (arg14 : BitVec 32) : Prop :=
  (∀ (r : Fin 8), ∀ a, (k0_off47 arg14 (BitVec.ofNat 32 (16 * r.val))) a + S16.size a ≤ S32896.size a)
theorem k0_off47_inb : ∀ (arg14 : BitVec 32) (k0_hw5 : k0_chk5 arg14), ∀ (r : Fin 8), ∀ a, (k0_off47 arg14 (BitVec.ofNat 32 (16 * r.val))) a + S16.size a ≤ S32896.size a := fun arg14 k0_hw5 r => k0_hw5 r

def k0_off48 (k0_t6 : Fin k0_t6_loop.trips) : Fin 2 → Nat :=
  let c0_i32_73 : BitVec 32 := 0#32
  let c1_i32_75 : BitVec 32 := 1#32
  let arg13 : BitVec 32 := Scf.iv c0_i32_73 c1_i32_75 k0_t6
  let v104 : Index := Scalar.indexCast arg13
  let c144 : Index := 144#32
  ![v104.toNat, 144]
def k0_off49 (k0_t6 : Fin k0_t6_loop.trips) : Fin 2 → Nat :=
  let c0_i32_73 : BitVec 32 := 0#32
  let c1_i32_75 : BitVec 32 := 1#32
  let arg13 : BitVec 32 := Scf.iv c0_i32_73 c1_i32_75 k0_t6
  let v112 : Index := Scalar.indexCast arg13
  let c160 : Index := 160#32
  ![v112.toNat, 160]
def k0_off50 (k0_t6 : Fin k0_t6_loop.trips) : Fin 2 → Nat :=
  let c0_i32_73 : BitVec 32 := 0#32
  let c1_i32_75 : BitVec 32 := 1#32
  let arg13 : BitVec 32 := Scf.iv c0_i32_73 c1_i32_75 k0_t6
  let v120 : Index := Scalar.indexCast arg13
  let c176 : Index := 176#32
  ![v120.toNat, 176]
def k0_off51 (k0_t6 : Fin k0_t6_loop.trips) : Fin 2 → Nat :=
  let c0_i32_73 : BitVec 32 := 0#32
  let c1_i32_75 : BitVec 32 := 1#32
  let arg13 : BitVec 32 := Scf.iv c0_i32_73 c1_i32_75 k0_t6
  let v128 : Index := Scalar.indexCast arg13
  let c192 : Index := 192#32
  ![v128.toNat, 192]
def k0_off52 (k0_t6 : Fin k0_t6_loop.trips) : Fin 2 → Nat :=
  let c0_i32_73 : BitVec 32 := 0#32
  let c1_i32_75 : BitVec 32 := 1#32
  let arg13 : BitVec 32 := Scf.iv c0_i32_73 c1_i32_75 k0_t6
  let v136 : Index := Scalar.indexCast arg13
  let c208 : Index := 208#32
  ![v136.toNat, 208]
def k0_off53 (k0_t6 : Fin k0_t6_loop.trips) : Fin 2 → Nat :=
  let c0_i32_73 : BitVec 32 := 0#32
  let c1_i32_75 : BitVec 32 := 1#32
  let arg13 : BitVec 32 := Scf.iv c0_i32_73 c1_i32_75 k0_t6
  let v144 : Index := Scalar.indexCast arg13
  let c224 : Index := 224#32
  ![v144.toNat, 224]
def k0_off54 (k0_t6 : Fin k0_t6_loop.trips) : Fin 2 → Nat :=
  let c0_i32_73 : BitVec 32 := 0#32
  let c1_i32_75 : BitVec 32 := 1#32
  let arg13 : BitVec 32 := Scf.iv c0_i32_73 c1_i32_75 k0_t6
  let v152 : Index := Scalar.indexCast arg13
  let c240 : Index := 240#32
  ![v152.toNat, 240]
def k0_cond3 (k0_t1 : Fin k0_t1_loop.trips) : BitVec 1 :=
  let c0_i32_7 : BitVec 32 := 0#32
  let c1_i32 : BitVec 32 := 1#32
  let arg12 : BitVec 32 := Scf.iv c0_i32_7 c1_i32 k0_t1
  let c1_i32_59 : BitVec 32 := 1#32
  let v67 : BitVec 32 := Scalar.addi arg12 c1_i32_59
  let c16_i32_60 : BitVec 32 := 16#32
  let v68 : BitVec 1 := Scalar.cmpi .slt v67 c16_i32_60
  let v80 : BitVec 32 := Scalar.extui v68
  let c0_i32_77 : BitVec 32 := 0#32
  let v81 : BitVec 1 := Scalar.cmpi .ne v80 c0_i32_77
  v81

def k0_off55 (i : grid0.Coords) (k0_t1 : Fin k0_t1_loop.trips) : Fin 3 → Nat :=
  let c2_i32_21 : BitVec 32 := 2#32
  let c0_i32_7 : BitVec 32 := 0#32
  let c1_i32 : BitVec 32 := 1#32
  let arg12 : BitVec 32 := Scf.iv c0_i32_7 c1_i32 k0_t1
  let v32 : BitVec 32 := Scalar.muli c2_i32_21 arg12
  let c2_i32_22 : BitVec 32 := 2#32
  let v33 : BitVec 32 := Scalar.addi v32 c2_i32_22
  let c32_i32_23 : BitVec 32 := 32#32
  let v34 : BitVec 32 := Scalar.muli v33 c32_i32_23
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v35 : BitVec 32 := Scalar.addi v34 v1
  let c0_i32_92 : BitVec 32 := 0#32
  let c0_i32_93 : BitVec 32 := 0#32
  ![v35.toNat, 0, 0]
@[reducible] def k0_t7_loop : Scf.Loop 32 :=
  let c0_i32_83 : BitVec 32 := 0#32
  let c128_i32_84 : BitVec 32 := 128#32
  let v86 : BitVec 32 := Scalar.addi c0_i32_83 c128_i32_84
  let c1_i32_85 : BitVec 32 := 1#32
  ⟨c0_i32_83, v86, c1_i32_85⟩
def k0_off56 (k0_t7 : Fin k0_t7_loop.trips) : Fin 2 → Nat :=
  let c127_i32 : BitVec 32 := 127#32
  let c0_i32_83 : BitVec 32 := 0#32
  let c1_i32_85 : BitVec 32 := 1#32
  let arg13 : BitVec 32 := Scf.iv c0_i32_83 c1_i32_85 k0_t7
  let v96 : BitVec 32 := Scalar.subi c127_i32 arg13
  let v97 : Index := Scalar.indexCast v96
  let c0 : Index := 0#32
  ![v97.toNat, 0]
def k0_off57 (arg14 : BitVec 32) (c0_i32_92 : BitVec 32) : Fin 1 → Nat :=
  let v100 : BitVec 32 := Scalar.addi arg14 c0_i32_92
  let v101 : Index := Scalar.indexCast v100
  ![v101.toNat]

def k0_chk6 (arg14 : BitVec 32) : Prop :=
  (∀ (r : Fin 8), ∀ a, (k0_off57 arg14 (BitVec.ofNat 32 (16 * r.val))) a + S16.size a ≤ S32896.size a)
theorem k0_off57_inb : ∀ (arg14 : BitVec 32) (k0_hw6 : k0_chk6 arg14), ∀ (r : Fin 8), ∀ a, (k0_off57 arg14 (BitVec.ofNat 32 (16 * r.val))) a + S16.size a ≤ S32896.size a := fun arg14 k0_hw6 r => k0_hw6 r

def k0_off58 (k0_t7 : Fin k0_t7_loop.trips) : Fin 2 → Nat :=
  let c127_i32 : BitVec 32 := 127#32
  let c0_i32_83 : BitVec 32 := 0#32
  let c1_i32_85 : BitVec 32 := 1#32
  let arg13 : BitVec 32 := Scf.iv c0_i32_83 c1_i32_85 k0_t7
  let v96 : BitVec 32 := Scalar.subi c127_i32 arg13
  let v105 : Index := Scalar.indexCast v96
  let c16 : Index := 16#32
  ![v105.toNat, 16]
def k0_off59 (k0_t7 : Fin k0_t7_loop.trips) : Fin 2 → Nat :=
  let c127_i32 : BitVec 32 := 127#32
  let c0_i32_83 : BitVec 32 := 0#32
  let c1_i32_85 : BitVec 32 := 1#32
  let arg13 : BitVec 32 := Scf.iv c0_i32_83 c1_i32_85 k0_t7
  let v96 : BitVec 32 := Scalar.subi c127_i32 arg13
  let v113 : Index := Scalar.indexCast v96
  let c32 : Index := 32#32
  ![v113.toNat, 32]
def k0_off60 (k0_t7 : Fin k0_t7_loop.trips) : Fin 2 → Nat :=
  let c127_i32 : BitVec 32 := 127#32
  let c0_i32_83 : BitVec 32 := 0#32
  let c1_i32_85 : BitVec 32 := 1#32
  let arg13 : BitVec 32 := Scf.iv c0_i32_83 c1_i32_85 k0_t7
  let v96 : BitVec 32 := Scalar.subi c127_i32 arg13
  let v121 : Index := Scalar.indexCast v96
  let c48 : Index := 48#32
  ![v121.toNat, 48]
def k0_off61 (k0_t7 : Fin k0_t7_loop.trips) : Fin 2 → Nat :=
  let c127_i32 : BitVec 32 := 127#32
  let c0_i32_83 : BitVec 32 := 0#32
  let c1_i32_85 : BitVec 32 := 1#32
  let arg13 : BitVec 32 := Scf.iv c0_i32_83 c1_i32_85 k0_t7
  let v96 : BitVec 32 := Scalar.subi c127_i32 arg13
  let v129 : Index := Scalar.indexCast v96
  let c64 : Index := 64#32
  ![v129.toNat, 64]
def k0_off62 (k0_t7 : Fin k0_t7_loop.trips) : Fin 2 → Nat :=
  let c127_i32 : BitVec 32 := 127#32
  let c0_i32_83 : BitVec 32 := 0#32
  let c1_i32_85 : BitVec 32 := 1#32
  let arg13 : BitVec 32 := Scf.iv c0_i32_83 c1_i32_85 k0_t7
  let v96 : BitVec 32 := Scalar.subi c127_i32 arg13
  let v137 : Index := Scalar.indexCast v96
  let c80 : Index := 80#32
  ![v137.toNat, 80]
def k0_off63 (k0_t7 : Fin k0_t7_loop.trips) : Fin 2 → Nat :=
  let c127_i32 : BitVec 32 := 127#32
  let c0_i32_83 : BitVec 32 := 0#32
  let c1_i32_85 : BitVec 32 := 1#32
  let arg13 : BitVec 32 := Scf.iv c0_i32_83 c1_i32_85 k0_t7
  let v96 : BitVec 32 := Scalar.subi c127_i32 arg13
  let v145 : Index := Scalar.indexCast v96
  let c96 : Index := 96#32
  ![v145.toNat, 96]
def k0_off64 (k0_t7 : Fin k0_t7_loop.trips) : Fin 2 → Nat :=
  let c127_i32 : BitVec 32 := 127#32
  let c0_i32_83 : BitVec 32 := 0#32
  let c1_i32_85 : BitVec 32 := 1#32
  let arg13 : BitVec 32 := Scf.iv c0_i32_83 c1_i32_85 k0_t7
  let v96 : BitVec 32 := Scalar.subi c127_i32 arg13
  let v153 : Index := Scalar.indexCast v96
  let c112 : Index := 112#32
  ![v153.toNat, 112]
def k0_cond4 (k0_t1 : Fin k0_t1_loop.trips) : BitVec 1 :=
  let c0_i32_7 : BitVec 32 := 0#32
  let c1_i32 : BitVec 32 := 1#32
  let arg12 : BitVec 32 := Scf.iv c0_i32_7 c1_i32 k0_t1
  let c1_i32_59 : BitVec 32 := 1#32
  let v67 : BitVec 32 := Scalar.addi arg12 c1_i32_59
  let c16_i32_60 : BitVec 32 := 16#32
  let v68 : BitVec 1 := Scalar.cmpi .slt v67 c16_i32_60
  let v88 : BitVec 32 := Scalar.extui v68
  let c0_i32_87 : BitVec 32 := 0#32
  let v89 : BitVec 1 := Scalar.cmpi .ne v88 c0_i32_87
  v89

def k0_off65 (i : grid0.Coords) (k0_t1 : Fin k0_t1_loop.trips) : Fin 3 → Nat :=
  let c2_i32_21 : BitVec 32 := 2#32
  let c0_i32_7 : BitVec 32 := 0#32
  let c1_i32 : BitVec 32 := 1#32
  let arg12 : BitVec 32 := Scf.iv c0_i32_7 c1_i32 k0_t1
  let v32 : BitVec 32 := Scalar.muli c2_i32_21 arg12
  let c2_i32_22 : BitVec 32 := 2#32
  let v33 : BitVec 32 := Scalar.addi v32 c2_i32_22
  let c32_i32_23 : BitVec 32 := 32#32
  let v34 : BitVec 32 := Scalar.muli v33 c32_i32_23
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v35 : BitVec 32 := Scalar.addi v34 v1
  let c128_i32_92 : BitVec 32 := 128#32
  let c128_i32_93 : BitVec 32 := 128#32
  ![v35.toNat, 128, 128]
def k0_off66 (i : grid0.Coords) (k0_t1 : Fin k0_t1_loop.trips) : Fin 2 → Nat :=
  let c2_i32_18 : BitVec 32 := 2#32
  let c0_i32_7 : BitVec 32 := 0#32
  let c1_i32 : BitVec 32 := 1#32
  let arg12 : BitVec 32 := Scf.iv c0_i32_7 c1_i32 k0_t1
  let v28 : BitVec 32 := Scalar.muli c2_i32_18 arg12
  let c1_i32_19 : BitVec 32 := 1#32
  let v29 : BitVec 32 := Scalar.addi v28 c1_i32_19
  let c32_i32_20 : BitVec 32 := 32#32
  let v30 : BitVec 32 := Scalar.muli v29 c32_i32_20
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v31 : BitVec 32 := Scalar.addi v30 v1
  let c0_i32_89 : BitVec 32 := 0#32
  ![v31.toNat, 0]
def k0_off67 (i : grid0.Coords) (c960_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : BitVec 32 := Scalar.addi c960_i32 v1
  let c0_i32_10 : BitVec 32 := 0#32
  ![v11.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x256x256 : Shape := ⟨3, ![1024, 256, 256]⟩
abbrev S_ : Shape := ⟨0, ![]⟩
abbrev S256x256 : Shape := ⟨2, ![256, 256]⟩
abbrev S65536 : Shape := ⟨1, ![65536]⟩
abbrev S32896 : Shape := ⟨1, ![32896]⟩
abbrev S65536x1 : Shape := ⟨2, ![65536, 1]⟩
abbrev S1 : Shape := ⟨1, ![1]⟩
abbrev S32896x1 : Shape := ⟨2, ![32896, 1]⟩
abbrev S32896x2 : Shape := ⟨2, ![32896, 2]⟩
abbrev S1024x32896 : Shape := ⟨2, ![1024, 32896]⟩

abbrev nBuf : Space → Nat
  | .hbm => 149
  | .vmem => 0
  | .smem => 0
  | _ => 0

abbrev hbmTy0_0 (i : Nat) : BufTy := match i % 128 with
  | 0 => ⟨S1024x256x256, .f32⟩
  | 1 => ⟨S_, .f32⟩
  | 2 => ⟨S256x256, .f32⟩
  | 3 => ⟨S256x256, .i32⟩
  | 4 => ⟨S_, .i32⟩
  | 5 => ⟨S256x256, .i32⟩
  | 6 => ⟨S256x256, .i32⟩
  | 7 => ⟨S256x256, .i32⟩
  | 8 => ⟨S256x256, .i1⟩
  | 9 => ⟨S_, .f32⟩
  | 10 => ⟨S256x256, .f32⟩
  | 11 => ⟨S256x256, .f32⟩
  | 12 => ⟨S65536, .f32⟩
  | 13 => ⟨S_, .f32⟩
  | 14 => ⟨S65536, .f32⟩
  | 15 => ⟨S65536, .i1⟩
  | 16 => ⟨S65536, .i32⟩
  | 17 => ⟨S_, .i32⟩
  | 18 => ⟨S_, .i32⟩
  | 19 => ⟨S65536, .i32⟩
  | 20 => ⟨S_, .i32⟩
  | 21 => ⟨S32896, .i32⟩
  | 22 => ⟨S_, .i32⟩
  | 23 => ⟨S65536, .i32⟩
  | 24 => ⟨S65536, .i1⟩
  | 25 => ⟨S_, .i32⟩
  | 26 => ⟨S65536, .i32⟩
  | 27 => ⟨S65536, .i32⟩
  | 28 => ⟨S65536, .i32⟩
  | 29 => ⟨S65536x1, .i32⟩
  | 30 => ⟨S_, .i32⟩
  | 31 => ⟨S65536, .i32⟩
  | 32 => ⟨S32896, .i32⟩
  | 33 => ⟨S_, .i32⟩
  | 34 => ⟨S_, .i32⟩
  | 35 => ⟨S32896, .i32⟩
  | 36 => ⟨S_, .i32⟩
  | 37 => ⟨S_, .i32⟩
  | 38 => ⟨S32896, .i32⟩
  | 39 => ⟨S32896, .i32⟩
  | 40 => ⟨S32896, .i32⟩
  | 41 => ⟨S_, .i32⟩
  | 42 => ⟨S32896, .i32⟩
  | 43 => ⟨S32896, .i1⟩
  | 44 => ⟨S32896, .i32⟩
  | 45 => ⟨S32896, .i32⟩
  | 46 => ⟨S_, .i32⟩
  | 47 => ⟨S32896, .i32⟩
  | 48 => ⟨S32896, .i1⟩
  | 49 => ⟨S32896, .i1⟩
  | 50 => ⟨S_, .i32⟩
  | 51 => ⟨S32896, .i32⟩
  | 52 => ⟨S32896, .i32⟩
  | 53 => ⟨S32896, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S32896, .i32⟩
  | 61 => ⟨S32896, .i32⟩
  | 62 => ⟨S_, .i32⟩
  | 63 => ⟨S32896, .i32⟩
  | 64 => ⟨S32896, .i1⟩
  | 65 => ⟨S_, .i32⟩
  | 66 => ⟨S32896, .i32⟩
  | 67 => ⟨S32896, .i1⟩
  | 68 => ⟨S_, .i32⟩
  | 69 => ⟨S_, .i1⟩
  | 70 => ⟨S32896, .i1⟩
  | 71 => ⟨S32896, .i1⟩
  | 72 => ⟨S32896, .i1⟩
  | 73 => ⟨S32896, .i32⟩
  | 74 => ⟨S32896, .i32⟩
  | 75 => ⟨S32896, .i32⟩
  | 76 => ⟨S_, .i32⟩
  | 77 => ⟨S_, .i32⟩
  | 78 => ⟨S32896, .i32⟩
  | 79 => ⟨S32896, .i32⟩
  | 80 => ⟨S32896, .i32⟩
  | 81 => ⟨S_, .i32⟩
  | 82 => ⟨S32896, .i32⟩
  | 83 => ⟨S32896, .i1⟩
  | 84 => ⟨S32896, .i32⟩
  | 85 => ⟨S32896, .i32⟩
  | 86 => ⟨S_, .i32⟩
  | 87 => ⟨S32896, .i32⟩
  | 88 => ⟨S32896, .i1⟩
  | 89 => ⟨S32896, .i1⟩
  | 90 => ⟨S_, .i32⟩
  | 91 => ⟨S32896, .i32⟩
  | 92 => ⟨S32896, .i32⟩
  | 93 => ⟨S32896, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S32896, .i32⟩
  | 101 => ⟨S32896, .i32⟩
  | 102 => ⟨S_, .i32⟩
  | 103 => ⟨S32896, .i32⟩
  | 104 => ⟨S32896, .i1⟩
  | 105 => ⟨S_, .i32⟩
  | 106 => ⟨S32896, .i32⟩
  | 107 => ⟨S32896, .i1⟩
  | 108 => ⟨S_, .i32⟩
  | 109 => ⟨S_, .i1⟩
  | 110 => ⟨S32896, .i1⟩
  | 111 => ⟨S32896, .i1⟩
  | 112 => ⟨S32896, .i1⟩
  | 113 => ⟨S32896, .i32⟩
  | 114 => ⟨S32896, .i32⟩
  | 115 => ⟨S32896, .i32⟩
  | 116 => ⟨S65536, .i32⟩
  | 117 => ⟨S_, .i32⟩
  | 118 => ⟨S_, .i32⟩
  | 119 => ⟨S1, .i32⟩
  | 120 => ⟨S32896, .i32⟩
  | 121 => ⟨S32896, .i32⟩
  | 122 => ⟨S32896, .i1⟩
  | 123 => ⟨S_, .i32⟩
  | 124 => ⟨S_, .i32⟩
  | 125 => ⟨S32896, .i32⟩
  | 126 => ⟨S32896, .i32⟩
  | 127 => ⟨S_, .i32⟩
  | _ => ⟨S1024x256x256, .f32⟩

abbrev hbmTy0_1 (i : Nat) : BufTy := match i % 128 with
  | 0 => ⟨S_, .i32⟩
  | 1 => ⟨S32896, .i32⟩
  | 2 => ⟨S32896, .i32⟩
  | 3 => ⟨S_, .i32⟩
  | 4 => ⟨S32896, .i32⟩
  | 5 => ⟨S32896, .i1⟩
  | 6 => ⟨S_, .i32⟩
  | 7 => ⟨S32896, .i32⟩
  | 8 => ⟨S32896, .i32⟩
  | 9 => ⟨S32896, .i32⟩
  | 10 => ⟨S_, .i32⟩
  | 11 => ⟨S32896, .i32⟩
  | 12 => ⟨S32896, .i1⟩
  | 13 => ⟨S_, .i32⟩
  | 14 => ⟨S32896, .i32⟩
  | 15 => ⟨S32896, .i32⟩
  | 16 => ⟨S32896, .i32⟩
  | 17 => ⟨S32896x1, .i32⟩
  | 18 => ⟨S32896x1, .i32⟩
  | 19 => ⟨S32896x2, .i32⟩
  | 20 => ⟨S1024x32896, .f32⟩
  | _ => ⟨S1024x256x256, .f32⟩

abbrev hbmTy (i : Nat) : BufTy := match i / 128 with
  | 0 => hbmTy0_0 i
  | 1 => hbmTy0_1 i
  | _ => ⟨S1024x256x256, .f32⟩

abbrev bufTy : (tb : Table) → Fin (tcTables nBuf tb) → BufTy
  | .hbm, ⟨i, _⟩ => hbmTy i
  | _, _ => ⟨S1024x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_call0_c : Ref sig .tc := ⟨.hbm, 17, rfl⟩
abbrev main_call1_call0_v0 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_call2_call0_c : Ref sig .tc := ⟨.hbm, 33, rfl⟩
abbrev main_call2_call0_v0 : Ref sig .tc := ⟨.hbm, 34, rfl⟩
abbrev main_v15 : Ref sig .tc := ⟨.hbm, 35, rfl⟩
abbrev main_c_4 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_v6 : Ref sig .tc := ⟨.hbm, 43, rfl⟩
abbrev main_call3_v7 : Ref sig .tc := ⟨.hbm, 44, rfl⟩
abbrev main_call3_v8 : Ref sig .tc := ⟨.hbm, 45, rfl⟩
abbrev main_call3_c : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_0 : Ref sig .tc := ⟨.hbm, 50, rfl⟩
abbrev main_call3_v12 : Ref sig .tc := ⟨.hbm, 51, rfl⟩
abbrev main_call3_v13 : Ref sig .tc := ⟨.hbm, 52, rfl⟩
abbrev main_v16 : Ref sig .tc := ⟨.hbm, 53, rfl⟩
abbrev main_c_5 : Ref sig .tc := ⟨.hbm, 54, rfl⟩
abbrev main_call4_v0 : Ref sig .tc := ⟨.hbm, 55, rfl⟩
abbrev main_call4_c : Ref sig .tc := ⟨.hbm, 56, rfl⟩
abbrev main_call4_v1 : Ref sig .tc := ⟨.hbm, 57, rfl⟩
abbrev main_call4_c_0 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_call4_c_1 : Ref sig .tc := ⟨.hbm, 62, rfl⟩
abbrev main_call4_v5 : Ref sig .tc := ⟨.hbm, 63, rfl⟩
abbrev main_call4_v6 : Ref sig .tc := ⟨.hbm, 64, rfl⟩
abbrev main_call4_c_2 : Ref sig .tc := ⟨.hbm, 65, rfl⟩
abbrev main_call4_v7 : Ref sig .tc := ⟨.hbm, 66, rfl⟩
abbrev main_call4_v8 : Ref sig .tc := ⟨.hbm, 67, rfl⟩
abbrev main_call4_c_3 : Ref sig .tc := ⟨.hbm, 68, rfl⟩
abbrev main_call4_v9 : Ref sig .tc := ⟨.hbm, 69, rfl⟩
abbrev main_call4_v10 : Ref sig .tc := ⟨.hbm, 70, rfl⟩
abbrev main_call4_v11 : Ref sig .tc := ⟨.hbm, 71, rfl⟩
abbrev main_call4_v12 : Ref sig .tc := ⟨.hbm, 72, rfl⟩
abbrev main_call4_v13 : Ref sig .tc := ⟨.hbm, 73, rfl⟩
abbrev main_call4_v14 : Ref sig .tc := ⟨.hbm, 74, rfl⟩
abbrev main_v17 : Ref sig .tc := ⟨.hbm, 75, rfl⟩
abbrev main_c_6 : Ref sig .tc := ⟨.hbm, 76, rfl⟩
abbrev main_call5_v0 : Ref sig .tc := ⟨.hbm, 77, rfl⟩
abbrev main_call5_v1 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_call5_v5 : Ref sig .tc := ⟨.hbm, 82, rfl⟩
abbrev main_call5_v6 : Ref sig .tc := ⟨.hbm, 83, rfl⟩
abbrev main_call5_v7 : Ref sig .tc := ⟨.hbm, 84, rfl⟩
abbrev main_call5_v8 : Ref sig .tc := ⟨.hbm, 85, rfl⟩
abbrev main_call5_c : Ref sig .tc := ⟨.hbm, 86, rfl⟩
abbrev main_call5_v9 : Ref sig .tc := ⟨.hbm, 87, rfl⟩
abbrev main_call5_v10 : Ref sig .tc := ⟨.hbm, 88, rfl⟩
abbrev main_call5_v11 : Ref sig .tc := ⟨.hbm, 89, rfl⟩
abbrev main_call5_c_0 : Ref sig .tc := ⟨.hbm, 90, rfl⟩
abbrev main_call5_v12 : Ref sig .tc := ⟨.hbm, 91, rfl⟩
abbrev main_call5_v13 : Ref sig .tc := ⟨.hbm, 92, rfl⟩
abbrev main_v18 : Ref sig .tc := ⟨.hbm, 93, rfl⟩
abbrev main_c_7 : Ref sig .tc := ⟨.hbm, 94, rfl⟩
abbrev main_call6_v0 : Ref sig .tc := ⟨.hbm, 95, rfl⟩
abbrev main_call6_c : Ref sig .tc := ⟨.hbm, 96, rfl⟩
abbrev main_call6_v1 : Ref sig .tc := ⟨.hbm, 97, rfl⟩
abbrev main_call6_c_0 : Ref sig .tc := ⟨.hbm, 98, rfl⟩
abbrev main_call6_v2 : Ref sig .tc := ⟨.hbm, 99, rfl⟩
abbrev main_call6_v3 : Ref sig .tc := ⟨.hbm, 100, rfl⟩
abbrev main_call6_v4 : Ref sig .tc := ⟨.hbm, 101, rfl⟩
abbrev main_call6_c_1 : Ref sig .tc := ⟨.hbm, 102, rfl⟩
abbrev main_call6_v5 : Ref sig .tc := ⟨.hbm, 103, rfl⟩
abbrev main_call6_v6 : Ref sig .tc := ⟨.hbm, 104, rfl⟩
abbrev main_call6_c_2 : Ref sig .tc := ⟨.hbm, 105, rfl⟩
abbrev main_call6_v7 : Ref sig .tc := ⟨.hbm, 106, rfl⟩
abbrev main_call6_v8 : Ref sig .tc := ⟨.hbm, 107, rfl⟩
abbrev main_call6_c_3 : Ref sig .tc := ⟨.hbm, 108, rfl⟩
abbrev main_call6_v9 : Ref sig .tc := ⟨.hbm, 109, rfl⟩
abbrev main_call6_v10 : Ref sig .tc := ⟨.hbm, 110, rfl⟩
abbrev main_call6_v11 : Ref sig .tc := ⟨.hbm, 111, rfl⟩
abbrev main_call6_v12 : Ref sig .tc := ⟨.hbm, 112, rfl⟩
abbrev main_call6_v13 : Ref sig .tc := ⟨.hbm, 113, rfl⟩
abbrev main_call6_v14 : Ref sig .tc := ⟨.hbm, 114, rfl⟩
abbrev main_v19 : Ref sig .tc := ⟨.hbm, 115, rfl⟩
abbrev main_v20 : Ref sig .tc := ⟨.hbm, 116, rfl⟩
abbrev main_c_8 : Ref sig .tc := ⟨.hbm, 117, rfl⟩
abbrev main_v21 : Ref sig .tc := ⟨.hbm, 118, rfl⟩
abbrev main_v22 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_c_9 : Ref sig .tc := ⟨.hbm, 123, rfl⟩
abbrev main_call7_v0 : Ref sig .tc := ⟨.hbm, 124, rfl⟩
abbrev main_call7_v1 : Ref sig .tc := ⟨.hbm, 125, rfl⟩
abbrev main_v26 : Ref sig .tc := ⟨.hbm, 126, rfl⟩
abbrev main_c_10 : Ref sig .tc := ⟨.hbm, 127, rfl⟩
abbrev main_call8_v0 : Ref sig .tc := ⟨.hbm, 128, rfl⟩
abbrev main_call8_v1 : Ref sig .tc := ⟨.hbm, 129, rfl⟩
abbrev main_v27 : Ref sig .tc := ⟨.hbm, 130, rfl⟩
abbrev main_c_11 : Ref sig .tc := ⟨.hbm, 131, rfl⟩
abbrev main_v28 : Ref sig .tc := ⟨.hbm, 132, rfl⟩
abbrev main_v29 : Ref sig .tc := ⟨.hbm, 133, rfl⟩
abbrev main_c_12 : Ref sig .tc := ⟨.hbm, 134, rfl⟩
abbrev main_v30 : Ref sig .tc := ⟨.hbm, 135, rfl⟩
abbrev main_v31 : Ref sig .tc := ⟨.hbm, 136, rfl⟩
abbrev main_v32 : Ref sig .tc := ⟨.hbm, 137, rfl⟩
abbrev main_c_13 : Ref sig .tc := ⟨.hbm, 138, rfl⟩
abbrev main_v33 : Ref sig .tc := ⟨.hbm, 139, rfl⟩
abbrev main_v34 : Ref sig .tc := ⟨.hbm, 140, rfl⟩
abbrev main_c_14 : Ref sig .tc := ⟨.hbm, 141, rfl⟩
abbrev main_v35 : Ref sig .tc := ⟨.hbm, 142, rfl⟩
abbrev main_v36 : Ref sig .tc := ⟨.hbm, 143, rfl⟩
abbrev main_v37 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_v41 : Ref sig .tc := ⟨.hbm, 148, rfl⟩

abbrev nD : Nat := 1
abbrev τ : Topo := Topo.v7x

variable {F : FTy → Type} [FloatOps F]
-- ==== Proof.Tri.lean ====
/-
  The packed upper triangle, as numbers.

  Row `r` of a 256 × 256 matrix contributes its entries `(r, c)` with `r ≤ c < 256`, in order, and the rows follow one
  another.  Entry `(r, c)` sits at position `base r + c`, where `base r = r (511 - r) / 2` (row `r`'s first entry is at
  `base r + r`).  This file has the arithmetic of `base`: its recurrence, that rows do not overlap, and the inverse map
  from a position to its row.
-/
module

public import Mathlib.Data.Nat.Basic
public import Mathlib.Tactic.Ring
public import Mathlib.Tactic.Linarith

@[expose] public section

namespace Cert.Proof.Tri

/-- Where column 0 of row `r` would sit: entry `(r, c)` of the triangle is at `base r + c`. -/
def base : Nat → Nat
  | 0 => 0
  | r + 1 => base r + (255 - r)

@[simp] theorem base_zero : base 0 = 0 := rfl
theorem base_succ (r : Nat) : base (r + 1) = base r + (255 - r) := rfl

theorem base_127 : base 127 = 24384 := by decide +kernel
theorem base_128 : base 128 = 24512 := by decide +kernel
theorem base_255 : base 255 = 32640 := by decide +kernel
theorem base_256 : base 256 = 32640 := by decide +kernel

theorem base_mono {r s : Nat} (h : r ≤ s) : base r ≤ base s := by
  induction h with
  | refl => exact le_rfl
  | step _ ih => exact ih.trans (by rw [base_succ]; omega)

/-- A row ends before any later row begins. -/
theorem base_sep {r s : Nat} (h : r < s) (hs : s < 256) : base r + 256 ≤ base s + s := by
  induction s with
  | zero => omega
  | succ n ih =>
    rw [base_succ]
    rcases Nat.lt_or_ge r n with hn | hn
    · have := ih hn (by omega); omega
    · have : r = n := by omega
      subst this; omega

theorem base_le {r : Nat} (h : r ≤ 255) : base r ≤ 32640 := base_255 ▸ base_mono h

/-- The positions of the triangle are below 32896. -/
theorem pos_lt {r c : Nat} (hrc : r ≤ c) (hc : c < 256) : base r + c < 32896 := by
  have := base_le (r := r) (by omega); omega

/-- A position names its entry. -/
theorem pos_inj {r c s d : Nat} (hrc : r ≤ c) (hc : c < 256) (hsd : s ≤ d) (hd : d < 256) (h : base r + c = base s + d) :
    r = s ∧ c = d := by
  rcases Nat.lt_trichotomy r s with hl | he | hg
  · have := base_sep hl (by omega); omega
  · subst he; omega
  · have := base_sep hg (by omega); omega

/-- Every position below 32896 is that of an entry. -/
theorem exists_pos {t : Nat} (ht : t < 32896) : ∃ r c, r ≤ c ∧ c < 256 ∧ base r + c = t := by
  have key : ∀ n, n ≤ 256 → t < base n + n → ∃ r c, r ≤ c ∧ c < 256 ∧ base r + c = t := by
    intro n
    induction n with
    | zero => intro _ h; simp at h
    | succ n ih =>
      intro hn h
      rcases Nat.lt_or_ge t (base n + n) with hlt | hge
      · exact ih (by omega) hlt
      · rw [base_succ] at h
        exact ⟨n, t - base n, by omega, by omega, by omega⟩
  exact key 256 le_rfl (by rw [base_256]; omega)

/-- The row of a position: how many of the later rows begin at or before it. -/
noncomputable def row (t : Nat) : Nat := if h : t < 32896 then (exists_pos h).choose else 0
/-- The column of a position. -/
noncomputable def col (t : Nat) : Nat := t - base (row t)

theorem row_col_spec {t : Nat} (ht : t < 32896) : row t ≤ col t ∧ col t < 256 ∧ base (row t) + col t = t := by
  obtain ⟨c, h1, h2, h3⟩ := (exists_pos ht).choose_spec
  have hr : row t = (exists_pos ht).choose := by unfold row; rw [dif_pos ht]
  have hc : col t = c := by unfold col; rw [hr]; omega
  rw [hc, hr]; exact ⟨h1, h2, h3⟩

theorem row_pos {r c : Nat} (hrc : r ≤ c) (hc : c < 256) : row (base r + c) = r ∧ col (base r + c) = c := by
  obtain ⟨h1, h2, h3⟩ := row_col_spec (pos_lt hrc hc)
  exact pos_inj h1 h2 hrc hc h3

theorem row_lt {t : Nat} (ht : t < 32896) : row t < 256 := by
  obtain ⟨h1, h2, h3⟩ := row_col_spec ht; omega
theorem col_lt {t : Nat} (ht : t < 32896) : col t < 256 := (row_col_spec ht).2.1

end Cert.Proof.Tri
-- ==== Proof.Setup.lean ====
/-
  The kernel as the SparseCore launch theorem sees it, and the buffers under their names: `x` (1024 × 256 × 256) and
  `out` (1024 × 32896) in HBM; on each tile, two input buffers (the upper 128 rows of a matrix; the lower right
  128 × 128 quarter) and two output rows of 32896 words.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Writes
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Tri

@[expose] public section

noncomputable section

namespace Cert.Proof.Triu

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's parameters -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The resources: the launch's handshakes beside the transfers' counters. -/
abbrev UH : Type := URounds (GSem nD τ sig) ℕ
abbrev UU : Type := UH × Counters

abbrev MM (F : FTy → Type) : Type := MT nD τ sig (HIx 1) (Elt F) ℕ UU ℕ

abbrev EH : Emb UH (MM F) := embL

/-! ## The buffers -/

abbrev xV : Memref sig Kind.scVector Space.hbm S1024x256x256 EltTy.f32 := Memref.whole main_arg0_scv
abbrev oV : Memref sig Kind.scVector Space.hbm S1024x32896 EltTy.f32 := Memref.whole main_v0_scv
abbrev aV : Memref sig Kind.scVector Space.vmem S128x256 EltTy.f32 := Memref.whole cc0_scratch0
abbrev bV : Memref sig Kind.scVector Space.vmem S128x128 EltTy.f32 := Memref.whole cc0_scratch1
abbrev pV : Memref sig Kind.scVector Space.vmem S32896 EltTy.f32 := Memref.whole cc0_scratch2
abbrev qV : Memref sig Kind.scVector Space.vmem S32896 EltTy.f32 := Memref.whole cc0_scratch3

abbrev xLoc (d : Dev nD) : Loc nD τ sig := (SparseCore.T d).loc main_arg0
abbrev oLoc (d : Dev nD) : Loc nD τ sig := (SparseCore.T d).loc main_v0

/-- The tile at grid coordinates `i`. -/
abbrev tl (d : Dev nD) (i : grid0.Coords) : Thread nD τ := SparseCore.V d ((i 0).castLE hcore0) ((i 1).castLE hsub0)

end Cert.Proof.Triu
-- ==== Proof.Chunks.lean ====
/-
  One trip of an inner loop: eight stores of sixteen words each lay 128 consecutive words of an output row down.

  `Filled P X h` says the packed row `h` holds `X r c` at position `base r + c` for every entry `(r, c)` of the triangle
  that `P` names.  A trip writes 128 consecutive words starting at `base r + cc`, the values of row `r` at columns
  `cc … cc + 127`; those of them left of the diagonal are positions of earlier rows, and a later trip (or an earlier row's
  own) has them right.  `filled_row` is what a trip does to `Filled`.
-/
module

public import proofs.«01_k».proof.Proof.Setup

@[expose] public section

noncomputable section

namespace Cert.Proof.Triu

open Cert.KernelIdeal Cert.KernelIdeal.Gen
open Idealize.ShloMosaic
open Cert.Proof.Tri

variable {F : FTy → Type}

/-- The packed row `h` holds the matrix `X`'s entries named by `P`. -/
def Filled (P : Nat → Nat → Prop) (X : Nat → Nat → Elt F .f32) (h : S32896.Idx → Elt F .f32) : Prop :=
  ∀ r c, r ≤ c → c < 256 → P r c → ∀ y : S32896.Idx, (y 0).val = base r + c → h y = X r c

/-- The store `p` lays down sixteen words, the `m`-th sixteen from `dst` on, with row `r`'s values. -/
structure Chunk (X : Nat → Nat → Elt F .f32) (r dst m : Nat) (p : View.Piece (Elt F) S32896 .f32) : Prop where
  cover : ∀ y : S32896.Idx, y ∈ p.1.set ↔ dst + 16 * m ≤ (y 0).val ∧ (y 0).val < dst + 16 * m + 16
  val : ∀ x : p.1.shape.Idx, p.2 x = X r (((p.1.emb x) 0).val - base r)

/-- A coordinate of a unit-stride rectangle's index. -/
theorem unit_idx_val {s : Shape} (off size : Fin s.rank → Nat) (inb : ∀ a, off a + size a ≤ s.size a)
    (x : (Rect.unit off size inb).shape.Idx) (a : Fin s.rank) : (((Rect.unit off size inb).toLoadRect.idx x) a).val = off a + (x a).val := by
  rw [LoadRect.idx_apply]; simp

/-- A store of sixteen words just read from one row of an input buffer is such a chunk. -/
theorem chunk {n k : Nat} {X : Nat → Nat → Elt F .f32} {r cc m : Nat}
    (V : View sig .scVector .vmem ⟨2, ![n, k]⟩ .f32) (g : V.ty.Contents (Elt F)) (r0 c0 : Nat)
    (hg : ∀ i, V.read (Elt F) g i = X (r0 + (i 0).val) (c0 + (i 1).val))
    (off : Fin 2 → Nat) (inb : ∀ a, off a + S1x16.size a ≤ (⟨2, ![n, k]⟩ : Shape).size a) (ρ κ : Nat) (hoff : off = ![ρ, κ])
    (hρ : r0 + ρ = r) (hκ : c0 + κ = cc + 16 * m)
    (offo : Fin 1 → Nat) (inbo : ∀ a, offo a + S16.size a ≤ S32896.size a) (ho : offo 0 = base r + cc + 16 * m)
    (pay : S16.Idx → Elt F .f32)
    (hp : pay = shapeCast S16 (shapeCast S16 (V.readAt (Elt F) (Rect.unit (s := ⟨2, ![n, k]⟩) off S1x16.size inb).toLoadRect g) shapeCasts_S1x16_S16) shapeCasts_S16_S16) :
    Chunk X r (base r + cc) m ⟨Rect.unit (s := S32896) offo S16.size inbo, pay⟩ where
  cover y := by
    rw [Rect.mem_set_unit]
    constructor
    · intro h
      have := h 0
      change offo 0 ≤ _ ∧ _ < offo 0 + 16 at this
      omega
    · intro h a
      have ha : a = 0 := Subsingleton.elim _ _
      subst ha
      change offo 0 ≤ _ ∧ _ < offo 0 + 16
      omega
  val x := by
    subst hp hoff
    have e : (((Rect.unit (s := S32896) offo S16.size inbo).emb x) 0).val = offo 0 + (x 0).val := unit_idx_val _ _ _ x 0
    have e2 := shapeCast_dropUnit_apply (n := 1) ![16] (V.readAt (Elt F) (Rect.unit (s := ⟨2, ![n, k]⟩) ![ρ, κ] S1x16.size inb).toLoadRect g) shapeCasts_S1x16_S16 x
    rw [shapeCast_self]
    refine e2.trans ?_
    rw [View.readAt_apply, hg, unit_idx_val, unit_idx_val]
    congr 1
    rw [e]
    change c0 + (κ + (x 0).val) = _
    omega

/-- The words outside a trip's 128 keep their contents; the 128 hold row `r`'s values. -/
theorem read_chunks {X : Nat → Nat → Elt F .f32} {r dst : Nat} (V : View sig .scVector .vmem S32896 .f32) (f : V.ty.Contents (Elt F))
    {p0 p1 p2 p3 p4 p5 p6 p7 : View.Piece (Elt F) S32896 .f32}
    (h0 : Chunk X r dst 0 p0) (h1 : Chunk X r dst 1 p1) (h2 : Chunk X r dst 2 p2) (h3 : Chunk X r dst 3 p3)
    (h4 : Chunk X r dst 4 p4) (h5 : Chunk X r dst 5 p5) (h6 : Chunk X r dst 6 p6) (h7 : Chunk X r dst 7 p7) (y : S32896.Idx) :
    V.read (Elt F) (V.writes (Elt F) f [p7, p6, p5, p4, p3, p2, p1, p0]) y
      = if dst ≤ (y 0).val ∧ (y 0).val < dst + 128 then X r ((y 0).val - base r) else V.read (Elt F) f y := by
  split
  · rename_i hy
    refine View.read_writes_apply_of_pieces V f (fun z => X r ((z 0).val - base r)) _ ?_ y ?_
    · simp only [List.forall_mem_cons]
      exact ⟨h7.val, h6.val, h5.val, h4.val, h3.val, h2.val, h1.val, h0.val, fun _ h => absurd h List.not_mem_nil⟩
    · simp only [List.exists_mem_cons_iff, h7.cover, h6.cover, h5.cover, h4.cover, h3.cover, h2.cover, h1.cover, h0.cover]
      omega
  · rename_i hy
    refine View.read_writes_apply_of_forall_not_mem V f y _ ?_
    simp only [List.forall_mem_cons, h7.cover, h6.cover, h5.cover, h4.cover, h3.cover, h2.cover, h1.cover, h0.cover]
    refine ⟨by omega, by omega, by omega, by omega, by omega, by omega, by omega, by omega, fun _ h => absurd h List.not_mem_nil⟩

/-- What a trip does to `Filled`: row `r`'s columns `cc … cc + 127` are right after it, whatever entry of another row was
    right and does not lie under it still is. -/
theorem filled_row {P P' : Nat → Nat → Prop} {X : Nat → Nat → Elt F .f32} {r cc : Nat} {h h' : S32896.Idx → Elt F .f32}
    (hP : Filled P X h)
    (hw : ∀ y, h' y = if base r + cc ≤ (y 0).val ∧ (y 0).val < base r + cc + 128 then X r ((y 0).val - base r) else h y)
    (hstep : ∀ s c, s ≤ c → c < 256 → P' s c → (s = r ∧ cc ≤ c ∧ c < cc + 128)
      ∨ (P s c ∧ (base s + c < base r + cc ∨ base r + cc + 128 ≤ base s + c))) :
    Filled P' X h' := by
  intro s c hsc hc hp y hy
  rw [hw]
  rcases hstep s c hsc hc hp with ⟨rfl, h1, h2⟩ | ⟨hp', ho⟩
  · rw [if_pos (by omega)]
    congr 1; omega
  · rw [if_neg (by omega)]
    exact hP s c hsc hc hp' y hy

end Cert.Proof.Triu
-- ==== Proof.Trips.lean ====
/-
  The inner loops, one trip each, over either output row.

  A matrix's packed row is laid down in three loops of 128 trips, each trip 128 words: the rows 127 … 0 at columns 0 … 127
  (backwards, so that what a trip writes left of the diagonal is overwritten by the earlier row's own trip), the rows
  0 … 127 at columns 128 … 255 (nothing of it left of the diagonal), the rows 255 … 128 at columns 128 … 255 (backwards
  again).  The first two read the upper 128 rows, the third the lower right quarter.  Each loop carries the position the
  next trip starts at.
-/
module

public import proofs.«01_k».proof.Proof.Chunks

@[expose] public section

noncomputable section

namespace Cert.Proof.Triu

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Tri

variable {F : FTy → Type} [FloatOps F]

/-! ## The entries right before trip `j` of each loop -/

abbrev P1 (j r c : Nat) : Prop := 128 ≤ r + j ∧ c < 128
abbrev P2 (j r c : Nat) : Prop := c < 128 ∨ r < j
abbrev P3 (j r c : Nat) : Prop := r < 128 ∨ 256 ≤ r + j

theorem step1 {k : Nat} (hk : k < 128) (s c : Nat) (hsc : s ≤ c) (hc : c < 256) (h : P1 (k + 1) s c) :
    (s = 127 - k ∧ 0 ≤ c ∧ c < 0 + 128) ∨ (P1 k s c ∧ (base s + c < base (127 - k) + 0 ∨ base (127 - k) + 0 + 128 ≤ base s + c)) := by
  obtain ⟨h1, h2⟩ := h
  rcases Nat.lt_or_ge (127 - k) s with hl | hg
  · have := base_sep hl (by omega)
    exact .inr ⟨⟨by omega, h2⟩, .inr (by omega)⟩
  · exact .inl ⟨by omega, by omega, by omega⟩

theorem step2 {k : Nat} (hk : k < 128) (s c : Nat) (hsc : s ≤ c) (hc : c < 256) (h : P2 (k + 1) s c) :
    (s = k ∧ 128 ≤ c ∧ c < 128 + 128) ∨ (P2 k s c ∧ (base s + c < base k + 128 ∨ base k + 128 + 128 ≤ base s + c)) := by
  rcases Nat.lt_trichotomy s k with hl | rfl | hg
  · have := base_sep hl (by omega)
    exact .inr ⟨.inr hl, .inl (by omega)⟩
  · rcases Nat.lt_or_ge c 128 with h' | h'
    · exact .inr ⟨.inl h', .inl (by omega)⟩
    · exact .inl ⟨rfl, h', by omega⟩
  · have := base_sep hg (by omega)
    rcases h with h | h
    · exact .inr ⟨.inl h, .inr (by omega)⟩
    · omega

theorem step3 {k : Nat} (hk : k < 128) (s c : Nat) (hsc : s ≤ c) (hc : c < 256) (h : P3 (k + 1) s c) :
    (s = 255 - k ∧ 128 ≤ c ∧ c < 128 + 128) ∨ (P3 k s c ∧ (base s + c < base (255 - k) + 128 ∨ base (255 - k) + 128 + 128 ≤ base s + c)) := by
  rcases Nat.lt_trichotomy s (255 - k) with hl | rfl | hg
  · have h' : s < 128 := by rcases h with h | h <;> omega
    have h1 := base_sep (r := s) (s := 128) h' (by omega)
    have h2 := base_mono (r := 128) (s := 255 - k) (by omega)
    exact .inr ⟨.inl h', .inl (by omega)⟩
  · exact .inl ⟨rfl, by omega, by omega⟩
  · have := base_sep hg (by omega)
    exact .inr ⟨.inr (by omega), .inr (by omega)⟩

/-! ## The carried position -/

theorem pos_toNat {dst m : Nat} (hd : dst + 128 ≤ 32896) (hm : m < 8) :
    (Scalar.addi (BitVec.ofNat 32 dst) (BitVec.ofNat 32 (16 * m)) : BitVec 32).toNat = dst + 16 * m := by
  show (BitVec.ofNat 32 dst + BitVec.ofNat 32 (16 * m)).toNat = _
  rw [← BitVec.ofNat_add, BitVec.toNat_ofNat]; omega

theorem off_pos {dst m : Nat} (hd : dst + 128 ≤ 32896) (hm : m < 8) :
    k0_off6 (BitVec.ofNat 32 dst) (BitVec.ofNat 32 (16 * m)) 0 = dst + 16 * m := pos_toNat hd hm

theorem chk_pos {dst : Nat} (hd : dst + 128 ≤ 32896) : k0_chk1 (BitVec.ofNat 32 dst) := by
  intro r a
  have ha : a = 0 := Subsingleton.elim _ _
  subst ha
  rw [off_pos hd r.isLt]
  have := r.isLt
  change _ + 16 ≤ 32896
  omega

/-- Where trip `j` of each loop starts. -/
abbrev D1 (j : Nat) : Nat := base (127 - j) + 0
abbrev D2 (j : Nat) : Nat := base j + 128
abbrev D3 (j : Nat) : Nat := base (255 - j) + 128

/-- A loop's carried word before trip `j`: where it starts (after the last trip, nothing). -/
abbrev At (Dst : Nat → Nat) (j : Nat) (a : BitVec 32) : Prop := j < 128 → a = BitVec.ofNat 32 (Dst j)

theorem D1_le {j : Nat} (h : j < 128) : D1 j + 128 ≤ 32896 := by have := base_le (r := 127 - j) (by omega); unfold D1; omega
theorem D2_le {j : Nat} (h : j < 128) : D2 j + 128 ≤ 32896 := by have := base_le (r := j) (by omega); unfold D2; omega
theorem D3_le {j : Nat} (h : j < 128) : D3 j + 128 ≤ 32896 := by have := base_le (r := 255 - j) (by omega); unfold D3; omega

theorem iv_eq {n : Nat} (k : Fin n) : Scf.iv 0#32 1#32 k = BitVec.ofNat 32 k.val := by
  simp [Scf.iv]

/-- The carried word's step: down by `129 + k`, down by `1 + k`, up by `255 - k`. -/
theorem next_sub {x y c n : Nat} (k : Fin n) (e : y = x + c + k.val) (h : y < 2 ^ 32) (hc : c < 2 ^ 32) :
    Scalar.subi (Scalar.subi (BitVec.ofNat 32 y) (BitVec.ofNat 32 c)) (Scf.iv 0#32 1#32 k) = BitVec.ofNat 32 x := by
  rw [iv_eq]
  show BitVec.ofNat 32 _ - BitVec.ofNat 32 c - BitVec.ofNat 32 k.val = _
  apply BitVec.eq_of_toNat_eq
  simp only [BitVec.toNat_sub, BitVec.toNat_ofNat]
  omega

theorem next_add {x y c n : Nat} (k : Fin n) (e : x = y + (c - k.val)) (hk : k.val ≤ c) (h : y + c < 2 ^ 32) :
    Scalar.subi (Scalar.addi (BitVec.ofNat 32 y) (BitVec.ofNat 32 c)) (Scf.iv 0#32 1#32 k) = BitVec.ofNat 32 x := by
  rw [iv_eq]
  show BitVec.ofNat 32 _ + BitVec.ofNat 32 c - BitVec.ofNat 32 k.val = _
  apply BitVec.eq_of_toNat_eq
  simp only [BitVec.toNat_sub, BitVec.toNat_add, BitVec.toNat_ofNat]
  omega

theorem D1_step {k : Nat} (h : k + 1 < 128) : D1 k = D1 (k + 1) + 129 + k := by
  unfold D1; rw [show 127 - k = (127 - (k + 1)) + 1 by omega, base_succ]; omega
theorem D2_step {k : Nat} (h : k + 1 < 128) : D2 (k + 1) = D2 k + (255 - k) := by
  unfold D2; rw [base_succ]; omega
theorem D3_step {k : Nat} (h : k + 1 < 128) : D3 k = D3 (k + 1) + 1 + k := by
  unfold D3; rw [show 255 - k = (255 - (k + 1)) + 1 by omega, base_succ]; omega

/-! ## The loops' invariants -/

/-- Before trip `j`: the input buffer read, the output row with the entries of `P j` right, the carried word. -/
def inv {n : Nat} (P : Nat → Nat → Nat → Prop) (Dst : Nat → Nat) (X : Nat → Nat → Elt F .f32) (d : Dev nD) (i : grid0.Coords)
    (A : Memref sig .scVector .vmem ⟨2, ![128, n]⟩ .f32) (g : A.view.ty.Contents (Elt F)) (M : Memref sig .scVector .vmem S32896 .f32)
    (j : Nat) (a : BitVec 32) : sProp (MM F) :=
  iprop((A.view.loc (tl d i) ↦[A.view.set]{fullShare} g)
    ∗ ∃ f : M.view.ty.Contents (Elt F), ⌜At Dst j a ∧ Filled (P j) X (M.view.read (Elt F) f)⌝ ∗ M.view.loc (tl d i) ↦[M.view.set]{fullShare} f)

variable (d : Dev nD) (i : grid0.Coords) (X : Nat → Nat → Elt F .f32)
  (A : Memref sig .scVector .vmem S128x256 .f32) (hA : A.IsWhole) (g : A.view.ty.Contents (Elt F))
  (B : Memref sig .scVector .vmem S128x128 .f32) (hB : B.IsWhole) (h : B.view.ty.Contents (Elt F))
  (M : Memref sig .scVector .vmem S32896 .f32) (hM : M.IsWhole) (N : Memref sig .scVector .vmem S32896 .f32) (hN : N.IsWhole)
  (t1 : Fin k0_t1_loop.trips) (w0 w1 w2 : BitVec 32)

/-- A trip of the first loop: row `127 - k` at columns 0 … 127, out of the upper 128 rows. -/
theorem trip1 (hg : ∀ x, A.view.read (Elt F) g x = X (0 + (x 0).val) (0 + (x 1).val)) (k : Fin k0_t2_loop.trips) (a : BitVec 32) :
    inv P1 D1 X d i A g M k.val a
      ⊢ wp frame (wpE (defs₀ (F := F)) 𝒱₀ (tl d i) none) Set.univ
          (k0_t2_body i xV (Memref.isWhole_whole _) oV (Memref.isWhole_whole _) A hA B hB M hM N hN cc0_scratch4 cc0_scratch5 cc0_scratch6 cc0_scratch7 w0 w1 w2 t1 k a)
          fun r => inv P1 D1 X d i A g M (k.val + 1) r := by
  have hk : k.val < 128 := lt_of_lt_of_le k.isLt k0_t2_abs.2.1
  unfold inv k0_t2_body
  rw [k0_part1_eq_skeleton]
  unfold k0_part1_skel
  iintro ⟨HA, %f, %hf, HM⟩
  obtain ⟨ha, hF⟩ := hf
  obtain rfl := ha hk
  sl_exec (disch := exact chk_pos (D1_le hk))
  sl_step
  isplitl [HA]; · iexact HA
  iexists _; isplitr; swap; · iexact HM
  ipureintro
  refine ⟨fun hk' => ?_, filled_row hF (read_chunks M.view f ?_ ?_ ?_ ?_ ?_ ?_ ?_ ?_) (step1 hk)⟩
  · exact next_sub k (D1_step hk') (by have := D1_le hk; omega) (by omega)
  · exact chunk A.view g 0 0 hg _ _ _ _ (k0_off5_eq k) (by omega) (by omega) _ _ (off_pos (D1_le hk) (m := 0) (by omega)) _ rfl
  · exact chunk A.view g 0 0 hg _ _ _ _ (k0_off7_eq k) (by omega) (by omega) _ _ (off_pos (D1_le hk) (m := 1) (by omega)) _ rfl
  · exact chunk A.view g 0 0 hg _ _ _ _ (k0_off8_eq k) (by omega) (by omega) _ _ (off_pos (D1_le hk) (m := 2) (by omega)) _ rfl
  · exact chunk A.view g 0 0 hg _ _ _ _ (k0_off9_eq k) (by omega) (by omega) _ _ (off_pos (D1_le hk) (m := 3) (by omega)) _ rfl
  · exact chunk A.view g 0 0 hg _ _ _ _ (k0_off10_eq k) (by omega) (by omega) _ _ (off_pos (D1_le hk) (m := 4) (by omega)) _ rfl
  · exact chunk A.view g 0 0 hg _ _ _ _ (k0_off11_eq k) (by omega) (by omega) _ _ (off_pos (D1_le hk) (m := 5) (by omega)) _ rfl
  · exact chunk A.view g 0 0 hg _ _ _ _ (k0_off12_eq k) (by omega) (by omega) _ _ (off_pos (D1_le hk) (m := 6) (by omega)) _ rfl
  · exact chunk A.view g 0 0 hg _ _ _ _ (k0_off13_eq k) (by omega) (by omega) _ _ (off_pos (D1_le hk) (m := 7) (by omega)) _ rfl

/-- A trip of the second loop: row `k` at columns 128 … 255, out of the upper 128 rows. -/
theorem trip2 (hg : ∀ x, A.view.read (Elt F) g x = X (0 + (x 0).val) (0 + (x 1).val)) (k : Fin k0_t3_loop.trips) (a : BitVec 32) :
    inv P2 D2 X d i A g M k.val a
      ⊢ wp frame (wpE (defs₀ (F := F)) 𝒱₀ (tl d i) none) Set.univ
          (k0_t3_body i xV (Memref.isWhole_whole _) oV (Memref.isWhole_whole _) A hA B hB M hM N hN cc0_scratch4 cc0_scratch5 cc0_scratch6 cc0_scratch7 w0 w1 w2 t1 k a)
          fun r => inv P2 D2 X d i A g M (k.val + 1) r := by
  have hk : k.val < 128 := lt_of_lt_of_le k.isLt k0_t3_abs.2.1
  unfold inv k0_t3_body
  rw [k0_part2_eq_skeleton]
  unfold k0_part2_skel
  iintro ⟨HA, %f, %hf, HM⟩
  obtain ⟨ha, hF⟩ := hf
  obtain rfl := ha hk
  sl_exec (disch := exact chk_pos (D2_le hk))
  sl_step
  isplitl [HA]; · iexact HA
  iexists _; isplitr; swap; · iexact HM
  ipureintro
  refine ⟨fun hk' => ?_, filled_row hF (read_chunks M.view f ?_ ?_ ?_ ?_ ?_ ?_ ?_ ?_) (step2 hk)⟩
  · exact next_add k (D2_step hk') (by omega) (by have := D2_le hk; omega)
  · exact chunk A.view g 0 0 hg _ _ _ _ (k0_off14_eq k) (by omega) (by omega) _ _ (off_pos (D2_le hk) (m := 0) (by omega)) _ rfl
  · exact chunk A.view g 0 0 hg _ _ _ _ (k0_off16_eq k) (by omega) (by omega) _ _ (off_pos (D2_le hk) (m := 1) (by omega)) _ rfl
  · exact chunk A.view g 0 0 hg _ _ _ _ (k0_off17_eq k) (by omega) (by omega) _ _ (off_pos (D2_le hk) (m := 2) (by omega)) _ rfl
  · exact chunk A.view g 0 0 hg _ _ _ _ (k0_off18_eq k) (by omega) (by omega) _ _ (off_pos (D2_le hk) (m := 3) (by omega)) _ rfl
  · exact chunk A.view g 0 0 hg _ _ _ _ (k0_off19_eq k) (by omega) (by omega) _ _ (off_pos (D2_le hk) (m := 4) (by omega)) _ rfl
  · exact chunk A.view g 0 0 hg _ _ _ _ (k0_off20_eq k) (by omega) (by omega) _ _ (off_pos (D2_le hk) (m := 5) (by omega)) _ rfl
  · exact chunk A.view g 0 0 hg _ _ _ _ (k0_off21_eq k) (by omega) (by omega) _ _ (off_pos (D2_le hk) (m := 6) (by omega)) _ rfl
  · exact chunk A.view g 0 0 hg _ _ _ _ (k0_off22_eq k) (by omega) (by omega) _ _ (off_pos (D2_le hk) (m := 7) (by omega)) _ rfl

/-- A trip of the third loop: row `255 - k` at columns 128 … 255, out of the lower right quarter. -/
theorem trip3 (hg : ∀ x, B.view.read (Elt F) h x = X (128 + (x 0).val) (128 + (x 1).val)) (k : Fin k0_t4_loop.trips) (a : BitVec 32) :
    inv P3 D3 X d i B h M k.val a
      ⊢ wp frame (wpE (defs₀ (F := F)) 𝒱₀ (tl d i) none) Set.univ
          (k0_t4_body i xV (Memref.isWhole_whole _) oV (Memref.isWhole_whole _) A hA B hB M hM N hN cc0_scratch4 cc0_scratch5 cc0_scratch6 cc0_scratch7 t1 w0 k a)
          fun r => inv P3 D3 X d i B h M (k.val + 1) r := by
  have hk : k.val < 128 := lt_of_lt_of_le k.isLt k0_t4_abs.2.1
  unfold inv k0_t4_body
  rw [k0_part3_eq_skeleton]
  unfold k0_part3_skel
  iintro ⟨HA, %f, %hf, HM⟩
  obtain ⟨ha, hF⟩ := hf
  obtain rfl := ha hk
  sl_exec (disch := exact chk_pos (D3_le hk))
  sl_step
  isplitl [HA]; · iexact HA
  iexists _; isplitr; swap; · iexact HM
  ipureintro
  refine ⟨fun hk' => ?_, filled_row hF (read_chunks M.view f ?_ ?_ ?_ ?_ ?_ ?_ ?_ ?_) (step3 hk)⟩
  · exact next_sub k (D3_step hk') (by have := D3_le hk; omega) (by omega)
  · exact chunk B.view h 128 128 hg _ _ _ _ (k0_off25_eq k) (by omega) (by omega) _ _ (off_pos (D3_le hk) (m := 0) (by omega)) _ rfl
  · exact chunk B.view h 128 128 hg _ _ _ _ (k0_off27_eq k) (by omega) (by omega) _ _ (off_pos (D3_le hk) (m := 1) (by omega)) _ rfl
  · exact chunk B.view h 128 128 hg _ _ _ _ (k0_off28_eq k) (by omega) (by omega) _ _ (off_pos (D3_le hk) (m := 2) (by omega)) _ rfl
  · exact chunk B.view h 128 128 hg _ _ _ _ (k0_off29_eq k) (by omega) (by omega) _ _ (off_pos (D3_le hk) (m := 3) (by omega)) _ rfl
  · exact chunk B.view h 128 128 hg _ _ _ _ (k0_off30_eq k) (by omega) (by omega) _ _ (off_pos (D3_le hk) (m := 4) (by omega)) _ rfl
  · exact chunk B.view h 128 128 hg _ _ _ _ (k0_off31_eq k) (by omega) (by omega) _ _ (off_pos (D3_le hk) (m := 5) (by omega)) _ rfl
  · exact chunk B.view h 128 128 hg _ _ _ _ (k0_off32_eq k) (by omega) (by omega) _ _ (off_pos (D3_le hk) (m := 6) (by omega)) _ rfl
  · exact chunk B.view h 128 128 hg _ _ _ _ (k0_off33_eq k) (by omega) (by omega) _ _ (off_pos (D3_le hk) (m := 7) (by omega)) _ rfl

end Cert.Proof.Triu
-- ==== Proof.Values.lean ====
/-
  What the tiles' transfers carry, as values: a transfer in reads a rectangle of matrix `b`, a transfer out writes row
  `b` of the result; `G` is the result.
-/
module

public import proofs.«01_k».proof.Proof.Trips

@[expose] public section

noncomputable section

namespace Cert.Proof.Triu

open Cert.KernelIdeal Cert.KernelIdeal.Gen
open Idealize.ShloMosaic
open Cert.Proof.Tri

variable {F : FTy → Type}

/-- Entry `(r, c)` of matrix `b`. -/
def XM (xf : S1024x256x256.Idx → Elt F .f32) (b r c : Nat) : Elt F .f32 :=
  xf (fun a => match a with | ⟨0, _⟩ => Fin.ofNat 1024 b | ⟨1, _⟩ => Fin.ofNat 256 r | ⟨2, _⟩ => Fin.ofNat 256 c)

theorem XM_of {xf : S1024x256x256.Idx → Elt F .f32} {x : S1024x256x256.Idx} {b r c : Nat} (hb : (x 0).val = b) (hr : (x 1).val = r) (hc : (x 2).val = c) :
    xf x = XM xf b r c := by
  subst hb hr hc
  unfold XM
  congr 1
  funext a
  fin_cases a
  · exact Fin.ext (Nat.mod_eq_of_lt (x 0).isLt).symm
  · exact Fin.ext (Nat.mod_eq_of_lt (x 1).isLt).symm
  · exact Fin.ext (Nat.mod_eq_of_lt (x 2).isLt).symm

/-- The result: row `b` is matrix `b`'s upper triangle, row by row. -/
def G (xf : S1024x256x256.Idx → Elt F .f32) (y : S1024x32896.Idx) : Elt F .f32 :=
  XM xf (y 0).val (row (y 1).val) (col (y 1).val)

/-! ## The windows the transfers name -/

/-- 128 rows of 256 of a matrix; 128 rows of 128; a row of the result. -/
abbrev aWin (off : Fin 3 → Nat) (inb : ∀ a, off a + S1x128x256.size a ≤ S1024x256x256.size a) : Memref sig .scVector .hbm S128x256 .f32 :=
  (xV.slice (Rect.unit (s := S1024x256x256) off S1x128x256.size inb) (fun _ => rfl)).squeeze S128x256 squeezes_S1x128x256_S128x256
abbrev bWin (off : Fin 3 → Nat) (inb : ∀ a, off a + S1x128x128.size a ≤ S1024x256x256.size a) : Memref sig .scVector .hbm S128x128 .f32 :=
  (xV.slice (Rect.unit (s := S1024x256x256) off S1x128x128.size inb) (fun _ => rfl)).squeeze S128x128 squeezes_S1x128x128_S128x128
abbrev oWin (off : Fin 2 → Nat) (inb : ∀ a, off a + S1x32896.size a ≤ S1024x32896.size a) : Memref sig .scVector .hbm S32896 .f32 :=
  (oV.slice (Rect.unit (s := S1024x32896) off S1x32896.size inb) (fun _ => rfl)).squeeze S32896 squeezes_S1x32896_S32896

theorem read_aWin {xf : S1024x256x256.Idx → Elt F .f32} {off : Fin 3 → Nat} (inb) {b : Nat} (ho : off = ![b, 0, 0]) (x : S128x256.Idx) :
    (aWin off inb).view.read (Elt F) xf x = XM xf b (0 + (x 0).val) (0 + (x 1).val) := by
  subst ho
  refine (shapeCast_dropUnit_apply (n := 2) ![128, 256] ((xV.slice (Rect.unit (s := S1024x256x256) ![b, 0, 0] S1x128x256.size inb) (fun _ => rfl)).view.read (Elt F) xf) _ x).trans ?_
  refine XM_of (xf := xf) ?_ ?_ ?_
  · exact (unit_idx_val _ _ inb _ 0).trans (by rfl)
  · exact (unit_idx_val _ _ inb _ 1).trans (by rfl)
  · exact (unit_idx_val _ _ inb _ 2).trans (by rfl)

theorem read_bWin {xf : S1024x256x256.Idx → Elt F .f32} {off : Fin 3 → Nat} (inb) {b : Nat} (ho : off = ![b, 128, 128]) (x : S128x128.Idx) :
    (bWin off inb).view.read (Elt F) xf x = XM xf b (128 + (x 0).val) (128 + (x 1).val) := by
  subst ho
  refine (shapeCast_dropUnit_apply (n := 2) ![128, 128] ((xV.slice (Rect.unit (s := S1024x256x256) ![b, 128, 128] S1x128x128.size inb) (fun _ => rfl)).view.read (Elt F) xf) _ x).trans ?_
  refine XM_of (xf := xf) ?_ ?_ ?_
  · exact (unit_idx_val _ _ inb _ 0).trans (by rfl)
  · exact (unit_idx_val _ _ inb _ 1).trans (by rfl)
  · exact (unit_idx_val _ _ inb _ 2).trans (by rfl)

/-- The coordinates of a row window's elements. -/
theorem emb_oWin {off : Fin 2 → Nat} (inb) {b : Nat} (ho : off = ![b, 0]) (t : S32896.Idx) :
    (((oWin off inb).view.emb t) 0).val = b ∧ (((oWin off inb).view.emb t) 1).val = (t 0).val := by
  subst ho
  have e : (oWin ![b, 0] inb).view.emb t = (Rect.unit (s := S1024x32896) ![b, 0] S1x32896.size inb).toLoadRect.idx (Fin.cons ⟨0, Nat.one_pos⟩ t : S1x32896.Idx) :=
    shapeCast_dropUnit_apply (n := 1) ![32896] (fun j => (Rect.unit (s := S1024x32896) ![b, 0] S1x32896.size inb).toLoadRect.idx j) _ t
  rw [e]
  exact ⟨(unit_idx_val _ _ inb _ 0).trans (by rfl), (unit_idx_val _ _ inb _ 1).trans (Nat.zero_add _)⟩

/-- Contents that put a packed row in the window of row `b` hold the result there. -/
theorem packed_row {xf : S1024x256x256.Idx → Elt F .f32} {off : Fin 2 → Nat} (inb) {b : Nat} (ho : off = ![b, 0]) {h : S32896.Idx → Elt F .f32}
    (hF : Filled (P3 128) (XM xf b) h) {fo : S1024x32896.Idx → Elt F .f32} (hr : ∀ t, fo ((oWin off inb).view.emb t) = h t) :
    ∀ y ∈ (oWin off inb).view.set, fo y = G xf y := by
  intro y hy
  obtain ⟨t, -, rfl⟩ := Finset.mem_map.mp hy
  obtain ⟨h0, h1⟩ := emb_oWin inb ho t
  obtain ⟨a1, a2, a3⟩ := row_col_spec (t := (t 0).val) (t 0).isLt
  rw [hr, G, h0, h1]
  exact hF _ _ a1 a2 (by unfold P3; omega) t a3.symm

end Cert.Proof.Triu
-- ==== Proof.Pair.lean ====
/-
  One trip of a tile's main loop: two matrices, `b` and `b + 32`.

  The tile works on matrices `w, w + 32, w + 64, …` (`w` its number) and keeps up to four transfers outstanding, each on a
  semaphore of its own: the next matrix's two rectangles coming in, the last two packed rows going out.  Trip `k` takes the
  matrices `64 k + w` (packed into the first output row) and `64 k + w + 32` (into the second).  The trip is run in three
  stretches: `stretch1`, `stretch2`, `stretch3`.
-/
module

public import proofs.«01_k».proof.Proof.Values

@[expose] public section

noncomputable section

namespace Cert.Proof.Triu

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Tri

variable {F : FTy → Type} [FloatOps F]

/-! ## The inner loops over the second output row are those over the first -/

section Eqs
variable (i : grid0.Coords) (t1 : Fin k0_t1_loop.trips) (w0 e0 e1 e2 : BitVec 32)

set_option maxRecDepth 65536 in
theorem t5_eq :
    k0_t5_body (F := F) i xV (Memref.isWhole_whole _) oV (Memref.isWhole_whole _) aV (Memref.isWhole_whole _) bV (Memref.isWhole_whole _) pV (Memref.isWhole_whole _) qV (Memref.isWhole_whole _)
        cc0_scratch4 cc0_scratch5 cc0_scratch6 cc0_scratch7 t1 w0
      = k0_t2_body i xV (Memref.isWhole_whole _) oV (Memref.isWhole_whole _) aV (Memref.isWhole_whole _) bV (Memref.isWhole_whole _) qV (Memref.isWhole_whole _) pV (Memref.isWhole_whole _)
        cc0_scratch4 cc0_scratch5 cc0_scratch6 cc0_scratch7 e0 e1 e2 t1 := rfl
set_option maxRecDepth 65536 in
theorem t6_eq :
    k0_t6_body (F := F) i xV (Memref.isWhole_whole _) oV (Memref.isWhole_whole _) aV (Memref.isWhole_whole _) bV (Memref.isWhole_whole _) pV (Memref.isWhole_whole _) qV (Memref.isWhole_whole _)
        cc0_scratch4 cc0_scratch5 cc0_scratch6 cc0_scratch7
      = k0_t3_body i xV (Memref.isWhole_whole _) oV (Memref.isWhole_whole _) aV (Memref.isWhole_whole _) bV (Memref.isWhole_whole _) qV (Memref.isWhole_whole _) pV (Memref.isWhole_whole _)
        cc0_scratch4 cc0_scratch5 cc0_scratch6 cc0_scratch7 e0 e1 e2 t1 := rfl
set_option maxRecDepth 65536 in
theorem t7_eq :
    k0_t7_body (F := F) i xV (Memref.isWhole_whole _) oV (Memref.isWhole_whole _) aV (Memref.isWhole_whole _) bV (Memref.isWhole_whole _) pV (Memref.isWhole_whole _) qV (Memref.isWhole_whole _)
        cc0_scratch4 cc0_scratch5 cc0_scratch6 cc0_scratch7
      = k0_t4_body i xV (Memref.isWhole_whole _) oV (Memref.isWhole_whole _) aV (Memref.isWhole_whole _) bV (Memref.isWhole_whole _) qV (Memref.isWhole_whole _) pV (Memref.isWhole_whole _)
        cc0_scratch4 cc0_scratch5 cc0_scratch6 cc0_scratch7 t1 w0 := rfl
end Eqs

/-! ## What the tile holds -/

/-- The elements of row `b` of the result. -/
def rset (b : Nat) : Finset S1024x32896.Idx := Finset.univ.filter fun y => (y 0).val = b

theorem set_oWin {off : Fin 2 → Nat} (inb) {b : Nat} (ho : off = ![b, 0]) : (oWin off inb).view.set = rset b := by
  ext y
  unfold rset
  rw [Finset.mem_filter]
  constructor
  · intro hy
    obtain ⟨t, -, rfl⟩ := Finset.mem_map.mp hy
    exact ⟨Finset.mem_univ _, (emb_oWin inb ho t).1⟩
  · rintro ⟨-, hy⟩
    have ht : ∀ a : Fin 1, (y 1).val < S32896.size a := fun a => by
      have := (y 1).isLt
      fin_cases a
      exact this
    refine Finset.mem_map.mpr ⟨(fun a => ⟨(y 1).val, ht a⟩), Finset.mem_univ _, ?_⟩
    obtain ⟨h0, h1⟩ := emb_oWin inb ho (fun a => ⟨(y 1).val, ht a⟩)
    funext a
    fin_cases a
    · exact Fin.ext (h0.trans hy.symm)
    · exact Fin.ext h1

/-- An output row's buffer as the outgoing transfers name it: all of it. -/
abbrev all (M : Memref sig .scVector .vmem S32896 .f32) : Memref sig .scVector .vmem S32896 .f32 :=
  M.slice (Rect.unit (s := S32896) ![0] S32896.size inb_S32896_S32896_0) (fun _ => rfl)

theorem read_all (M : Memref sig .scVector .vmem S32896 .f32) (f : M.view.ty.Contents (Elt F)) : (all M).view.read (Elt F) f = M.view.read (Elt F) f := by
  funext x
  show M.view.read (Elt F) f ((Rect.unit (s := S32896) ![0] S32896.size inb_S32896_S32896_0).toLoadRect.idx x) = _
  refine congrArg _ (funext fun a => Fin.ext ?_)
  rw [unit_idx_val]
  fin_cases a
  exact Nat.zero_add _

theorem read_oWin {off : Fin 2 → Nat} (inb) (w : S1024x32896.Idx → Elt F .f32) (t : S32896.Idx) :
    (oWin off inb).view.read (Elt F) w t = w ((oWin off inb).view.emb t) := rfl

/-- An offset with its row named otherwise. -/
theorem at3 {off : Fin 3 → Nat} {a b r c : Nat} (e : off = ![a, r, c]) (h : a = b) : off = ![b, r, c] := h ▸ e
theorem at2 {off : Fin 2 → Nat} {a b c : Nat} (e : off = ![a, c]) (h : a = b) : off = ![b, c] := h ▸ e

section Held
variable (d : Dev nD) (i : grid0.Coords) (q : PosShare TreeShare) (xf : Buf (Elt F) (xLoc d))
  (O : CellTallies nD τ sig (HIx 1)) (W : Waits sig (HIx 1))

/-- The tile's number. -/
abbrev wid (i : grid0.Coords) : Nat := 2 * (i 1).val + (i 0).val

/-- Row `b` of the result, holding `f`'s values there. -/
def Row (d : Dev nD) (b : Nat) (f : S1024x32896.Idx → Elt F .f32) : sProp (MM F) := oLoc d ↦[rset b]{fullShare} f

theorem Row_eq {off : Fin 2 → Nat} (inb) {b : Nat} (ho : off = ![b, 0]) (f : S1024x32896.Idx → Elt F .f32) :
    Row d b f = ((oWin off inb).view.loc (tl d i) ↦[(oWin off inb).view.set]{fullShare} f : sProp (MM F)) := by
  rw [set_oWin inb ho]; rfl

/-- A semaphore of the tile's at zero. -/
abbrev dcell (b : DmaSems sig S_) : sProp (MM F) := semVal (tl d i, SemLoc.dma b.sem) 0

/-- The tile's promise: nothing new owed since `W`, except for its own transfers. -/
def Owed : sProp (MM F) := iprop(∃ W', ⌜∀ p ∈ W', p ∈ W ∨ p.2 = none⌝ ∗ owes (tl d i) O W')

/-- The upper 128 rows of matrix `b` coming in. -/
def InA (b : Nat) : sProp (MM F) :=
  iprop(∃ (off : Fin 3 → Nat) (inb : ∀ a, off a + S1x128x256.size a ≤ S1024x256x256.size a) (g : aV.view.ty.Contents (Elt F)),
    ⌜∀ x, aV.view.read (Elt F) g x = XM xf b (0 + (x 0).val) (0 + (x 1).val)⌝
    ∗ Transfers.Flight countersEmb (tl d i) (SemLoc.dma cc0_scratch4.sem) (default : HIx 1) 1048576
        iprop((aV.view.loc (tl d i) ↦[aV.view.set]{fullShare} g) ∗ xV.view.loc (tl d i) ↦[(aWin off inb).view.set]{Transfers.shareTokN q 0} xf)
    ∗ xV.view.loc (tl d i) ↦[Finset.univ \ (aWin off inb).view.set]{Transfers.shareTokN q 0} xf)

/-- The lower right quarter of matrix `b` coming in. -/
def InB (b : Nat) : sProp (MM F) :=
  iprop(∃ (off : Fin 3 → Nat) (inb : ∀ a, off a + S1x128x128.size a ≤ S1024x256x256.size a) (g : bV.view.ty.Contents (Elt F)),
    ⌜∀ x, bV.view.read (Elt F) g x = XM xf b (128 + (x 0).val) (128 + (x 1).val)⌝
    ∗ Transfers.Flight countersEmb (tl d i) (SemLoc.dma cc0_scratch5.sem) (default : HIx 1) 524288
        iprop((bV.view.loc (tl d i) ↦[bV.view.set]{fullShare} g) ∗ xV.view.loc (tl d i) ↦[(bWin off inb).view.set]{Transfers.shareTokN q 1} xf)
    ∗ xV.view.loc (tl d i) ↦[Finset.univ \ (bWin off inb).view.set]{Transfers.shareTokN q 1} xf)

/-- No input outstanding on the upper rows' buffer, or on the quarter's. -/
def NoA : sProp (MM F) :=
  iprop((∃ g, aV.view.loc (tl d i) ↦[aV.view.set]{fullShare} g) ∗ (xV.view.loc (tl d i) ↦{Transfers.shareTokN q 0} xf) ∗ dcell d i cc0_scratch4)
def NoB : sProp (MM F) :=
  iprop((∃ g, bV.view.loc (tl d i) ↦[bV.view.set]{fullShare} g) ∗ (xV.view.loc (tl d i) ↦{Transfers.shareTokN q 1} xf) ∗ dcell d i cc0_scratch5)

/-- Row `b` of the result going out of the buffer `M`, on the semaphore `sem`. -/
def Out (M : Memref sig .scVector .vmem S32896 .f32) (sem : DmaSems sig S_) (b : Nat) : sProp (MM F) :=
  iprop(∃ (off : Fin 2 → Nat) (inb : ∀ a, off a + S1x32896.size a ≤ S1024x32896.size a) (fo : S1024x32896.Idx → Elt F .f32) (f : M.view.ty.Contents (Elt F)),
    ⌜off = ![b, 0] ∧ ∀ y ∈ (oWin off inb).view.set, fo y = G xf y⌝
    ∗ Transfers.Flight countersEmb (tl d i) (SemLoc.dma sem.sem) (default : HIx 1) 1052672
        iprop(((oWin off inb).view.loc (tl d i) ↦[(oWin off inb).view.set]{fullShare} fo) ∗ M.view.loc (tl d i) ↦[(M.slice (Rect.unit (s := S32896) ![0] S32896.size inb_S32896_S32896_0) (fun _ => rfl)).view.set]{fullShare} f)
    ∗ M.view.loc (tl d i) ↦[M.view.set \ (M.slice (Rect.unit (s := S32896) ![0] S32896.size inb_S32896_S32896_0) (fun _ => rfl)).view.set]{fullShare} f)

/-- The buffer `M` free to be packed. -/
def Free (M : Memref sig .scVector .vmem S32896 .f32) (sem : DmaSems sig S_) : sProp (MM F) :=
  iprop((∃ f, M.view.loc (tl d i) ↦[M.view.set]{fullShare} f) ∗ dcell d i sem)

/-- The buffer `M` with the entries of `P` of matrix `b` packed. -/
def Packed (P : Nat → Nat → Prop) (M : Memref sig .scVector .vmem S32896 .f32) (b : Nat) : sProp (MM F) :=
  iprop(∃ f, ⌜Filled P (XM xf b) (M.view.read (Elt F) f)⌝ ∗ M.view.loc (tl d i) ↦[M.view.set]{fullShare} f)

/-- Before a trip's wait on an output row: in the first trip it is free, later it is still going out. -/
def Prev (k : Nat) (M : Memref sig .scVector .vmem S32896 .f32) (sem : DmaSems sig S_) (b : Nat) : sProp (MM F) :=
  if 0 < k then Out d i xf M sem b else iprop(emp ∗ Free d i M sem)

/-- After the wait: from the second trip on, that row is done. -/
def Was (k b : Nat) : sProp (MM F) := if 0 < k then Row d b (G xf) else iprop(emp)

/-- The upper rows of matrix `b` in, the semaphore at rest. -/
def HaveA (b : Nat) : sProp (MM F) :=
  iprop((∃ g, ⌜∀ x, aV.view.read (Elt F) g x = XM xf b (0 + (x 0).val) (0 + (x 1).val)⌝ ∗ aV.view.loc (tl d i) ↦[aV.view.set]{fullShare} g)
    ∗ (xV.view.loc (tl d i) ↦{Transfers.shareTokN q 0} xf) ∗ dcell d i cc0_scratch4)

/-- After trip `k`: the next trip's matrix is on its way, unless it was the last. -/
def NextA (k b : Nat) : sProp (MM F) := if k + 1 < 16 then InA d i q xf b else NoA d i q xf
def NextB (k b : Nat) : sProp (MM F) := if k + 1 < 16 then InB d i q xf b else NoB d i q xf

end Held

/-! ## The pieces' values -/

theorem Filled.imp {P P' : Nat → Nat → Prop} {X : Nat → Nat → Elt F .f32} {h : S32896.Idx → Elt F .f32} (hf : Filled P X h)
    (hP : ∀ r c, r ≤ c → c < 256 → P' r c → P r c) : Filled P' X h :=
  fun r c hrc hc hp => hf r c hrc hc (hP r c hrc hc hp)

theorem p12 (r c : Nat) (hrc : r ≤ c) (hc : c < 256) (h : P2 0 r c) : P1 128 r c := by unfold P1 P2 at *; omega
theorem p23 (r c : Nat) (hrc : r ≤ c) (hc : c < 256) (h : P3 0 r c) : P2 128 r c := by unfold P2 P3 at *; omega
theorem p01 (r c : Nat) (hrc : r ≤ c) (hc : c < 256) (h : P1 0 r c) : False := by unfold P1 at *; omega

section Intro
variable (d : Dev nD) (i : grid0.Coords) (q : PosShare TreeShare) (xf : Buf (Elt F) (xLoc d))

theorem inA_intro {off : Fin 3 → Nat} (inb) {b : Nat} (ho : off = ![b, 0, 0]) (g : aV.view.ty.Contents (Elt F)) :
    iprop((Transfers.Flight countersEmb (tl d i) (SemLoc.dma cc0_scratch4.sem) (default : HIx 1) 1048576
        iprop((aV.view.loc (tl d i) ↦[aV.view.set]{fullShare} aV.view.writes (Elt F) g [⟨Rect.whole S128x256, (aWin off inb).view.read (Elt F) xf⟩])
          ∗ xV.view.loc (tl d i) ↦[(aWin off inb).view.set]{Transfers.shareTokN q 0} xf))
      ∗ xV.view.loc (tl d i) ↦[Finset.univ \ (aWin off inb).view.set]{Transfers.shareTokN q 0} xf)
    ⊢ (InA d i q xf b : sProp (MM F)) := by
  unfold InA
  iintro ⟨Hf, Hx⟩
  iexists off, inb, (aV.view.writes (Elt F) g [⟨Rect.whole S128x256, (aWin off inb).view.read (Elt F) xf⟩])
  isplitr
  · ipureintro
    intro x
    exact (congrFun (View.read_writes_whole aV.view g ((aWin off inb).view.read (Elt F) xf)) x).trans (read_aWin inb ho x)
  isplitl [Hf] <;> iassumption

theorem inB_intro {off : Fin 3 → Nat} (inb) {b : Nat} (ho : off = ![b, 128, 128]) (g : bV.view.ty.Contents (Elt F)) :
    iprop((Transfers.Flight countersEmb (tl d i) (SemLoc.dma cc0_scratch5.sem) (default : HIx 1) 524288
        iprop((bV.view.loc (tl d i) ↦[bV.view.set]{fullShare} bV.view.writes (Elt F) g [⟨Rect.whole S128x128, (bWin off inb).view.read (Elt F) xf⟩])
          ∗ xV.view.loc (tl d i) ↦[(bWin off inb).view.set]{Transfers.shareTokN q 1} xf))
      ∗ xV.view.loc (tl d i) ↦[Finset.univ \ (bWin off inb).view.set]{Transfers.shareTokN q 1} xf)
    ⊢ (InB d i q xf b : sProp (MM F)) := by
  unfold InB
  iintro ⟨Hf, Hx⟩
  iexists off, inb, (bV.view.writes (Elt F) g [⟨Rect.whole S128x128, (bWin off inb).view.read (Elt F) xf⟩])
  isplitr
  · ipureintro
    intro x
    exact (congrFun (View.read_writes_whole bV.view g ((bWin off inb).view.read (Elt F) xf)) x).trans (read_bWin inb ho x)
  isplitl [Hf] <;> iassumption

/-- A row that went out of a buffer packed right holds the result. -/
theorem out_intro (M : Memref sig .scVector .vmem S32896 .f32) (sem : DmaSems sig S_) {off : Fin 2 → Nat} (inb) {b : Nat} (ho : off = ![b, 0])
    (fo : S1024x32896.Idx → Elt F .f32) (f : M.view.ty.Contents (Elt F)) (hf : Filled (P3 128) (XM xf b) (M.view.read (Elt F) f)) :
    iprop((Transfers.Flight countersEmb (tl d i) (SemLoc.dma sem.sem) (default : HIx 1) 1052672
        iprop(((oWin off inb).view.loc (tl d i) ↦[(oWin off inb).view.set]{fullShare} (oWin off inb).view.writes (Elt F) fo [⟨Rect.whole S32896, (all M).view.read (Elt F) f⟩])
          ∗ M.view.loc (tl d i) ↦[(all M).view.set]{fullShare} f))
      ∗ M.view.loc (tl d i) ↦[M.view.set \ (all M).view.set]{fullShare} f)
    ⊢ (Out d i xf M sem b : sProp (MM F)) := by
  unfold Out
  iintro ⟨Hf, Hx⟩
  iexists off, inb, ((oWin off inb).view.writes (Elt F) fo [⟨Rect.whole S32896, (all M).view.read (Elt F) f⟩]), f
  isplitr
  · ipureintro
    refine ⟨ho, packed_row inb ho hf fun t => ?_⟩
    have e := congrFun (View.read_writes_whole (oWin off inb).view fo ((all M).view.read (Elt F) f)) t
    exact (read_oWin inb _ t).symm.trans (e.trans (congrFun (read_all M f) t))
  isplitl [Hf] <;> iassumption

/-- A row gone out. -/
theorem row_intro {off : Fin 2 → Nat} (inb) {b : Nat} (fo : S1024x32896.Idx → Elt F .f32)
    (ho : off = ![b, 0] ∧ ∀ y ∈ (oWin off inb).view.set, fo y = G xf y) :
    ((oWin off inb).view.loc (tl d i) ↦[(oWin off inb).view.set]{fullShare} fo : sProp (MM F)) ⊢ Row d b (G xf) := by
  rw [Row_eq d i inb ho.1]
  exact Entails.of_eq (pointsTo_congr ho.2)

theorem inv_intro {n : Nat} {P : Nat → Nat → Nat → Prop} {Dst : Nat → Nat} {X : Nat → Nat → Elt F .f32}
    (A : Memref sig .scVector .vmem ⟨2, ![128, n]⟩ .f32) (g : A.view.ty.Contents (Elt F)) (M : Memref sig .scVector .vmem S32896 .f32)
    (f : M.view.ty.Contents (Elt F)) {a : BitVec 32} (ha : a = BitVec.ofNat 32 (Dst 0)) (hf : Filled (P 0) X (M.view.read (Elt F) f)) :
    iprop((A.view.loc (tl d i) ↦[A.view.set]{fullShare} g) ∗ M.view.loc (tl d i) ↦[M.view.set]{fullShare} f)
      ⊢ (inv P Dst X d i A g M 0 a : sProp (MM F)) := by
  unfold inv
  iintro ⟨HA, HM⟩
  isplitl [HA]; · iexact HA
  iexists f
  isplitr
  · ipureintro; exact ⟨fun _ => ha, hf⟩
  · iexact HM

theorem owed_insert {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

end Intro

section Stretch
variable (d : Dev nD) (i : grid0.Coords) (q : PosShare TreeShare) (xf : Buf (Elt F) (xLoc d))
  (O : CellTallies nD τ sig (HIx 1)) (W : Waits sig (HIx 1)) (k : Fin k0_t1_loop.trips)

theorem cond2_iff : ∀ k : Fin k0_t1_loop.trips, k0_cond2 k = 1#1 ↔ 0 < k.val := by decide +kernel
theorem cond3_iff : ∀ k : Fin k0_t1_loop.trips, k0_cond3 k = 1#1 ↔ k.val + 1 < 16 := by decide +kernel
theorem cond4_iff : ∀ k : Fin k0_t1_loop.trips, k0_cond4 k = 1#1 ↔ k.val + 1 < 16 := by decide +kernel
theorem cond1_iff : ∀ k : Fin k0_t1_loop.trips, k0_cond1 k = 1#1 ↔ 0 < k.val := by decide +kernel

theorem stretch1 (v1 : BitVec 32) :
    iprop(Transfers.MayWaits (tl d i) (default : HIx 1) O ∗ InA d i q xf (64 * k.val + wid i)
       ∗ Prev d i xf k.val pV cc0_scratch6 (64 * k.val + wid i - 64) ∗ Owed d i O W)
      ⊢ (wp frame (wpE (defs₀ (F := F)) 𝒱₀ (tl d i) none) Set.univ
          (k0_part7 i xV (Memref.isWhole_whole _) oV (Memref.isWhole_whole _) aV (Memref.isWhole_whole _) bV (Memref.isWhole_whole _) pV (Memref.isWhole_whole _) qV (Memref.isWhole_whole _)
            cc0_scratch4 cc0_scratch5 cc0_scratch6 cc0_scratch7 v1 0#32 1#32 k)
          fun r => iprop(InA d i q xf (64 * k.val + wid i + 32) ∗ Packed d i xf (P3 0) pV (64 * k.val + wid i) ∗ dcell d i cc0_scratch6
            ∗ Was d xf k.val (64 * k.val + wid i - 64) ∗ Owed d i O W) : sProp (MM F)) := by
  rw [k0_part7_eq_skeleton]
  unfold k0_part7_skel Prev Was
  rw [InA]
  have hk16 : k.val < 16 := lt_of_lt_of_le k.isLt k0_t1_abs.2.1
  rcases Classical.em (k0_cond1 k = 1#1) with hc | hc
  case' inl =>
    rw [if_pos ((cond1_iff k).1 hc), if_pos ((cond1_iff k).1 hc), Out, Owed]
    iintro ⟨#Hmw, ⟨%off, %inb, %g, %hg, Hfa, Hxa⟩, ⟨%offo, %inbo, %fo, %f, %ho, H6, Hp⟩, %W', %hW', HO⟩
    sl_exec (disch := first | sl_exact hc | omega)
    ihave HR := (row_intro d i xf inbo fo ho) $$ H6_dst
    have hW := owed_insert (s := SemLoc.dma cc0_scratch6.sem) (owed_insert (s := SemLoc.dma cc0_scratch4.sem) hW')
  case' inr =>
    rw [if_neg (mt (cond1_iff k).2 hc), if_neg (mt (cond1_iff k).2 hc), Free, Owed]
    iintro ⟨#Hmw, ⟨%off, %inb, %g, %hg, Hfa, Hxa⟩, ⟨HR, ⟨%f, Hp⟩, H6⟩, %W', %hW', HO⟩
    sl_exec (disch := first | sl_exact hc | omega)
    have hW := owed_insert (s := SemLoc.dma cc0_scratch4.sem) hW'
  all_goals
    sl_for (inv P1 D1 (XM xf (64 * k.val + wid i)) d i aV g pV) $$ [Hfa_dst Hp]
    case region =>
      intro j a
      exact trip1 d i (XM xf (64 * _ + wid i)) aV _ g bV _ pV _ qV _ _ _ _ _ hg j a
    · iapply (inv_intro d i aV g pV f rfl fun r c hrc hcl hp => (p01 r c hrc hcl hp).elim)
      isplitl [Hfa_dst] <;> iassumption
    unfold inv
    iintro %r1 ⟨Ha, %f1, %hf1, Hp⟩
    sl_for (inv P2 D2 (XM xf (64 * k.val + wid i)) d i aV g pV) $$ [Ha Hp]
    case region =>
      intro j a
      exact trip2 d i (XM xf (64 * _ + wid i)) aV _ g bV _ pV _ qV _ _ _ _ _ hg j a
    · iapply (inv_intro d i aV g pV f1 rfl (hf1.2.imp p12))
      isplitl [Ha] <;> iassumption
    unfold inv
    iintro %r2 ⟨Ha, %f2, %hf2, Hp⟩
    sl_exec
    sl_step
    isplitl [Hfa Hxa]
    · iapply (inA_intro d i q xf (k0_off23_inb i k) (at3 (k0_off23_eq i k) (by unfold wid; omega)) g)
      isplitl [Hfa]
      · iexact Hfa
      · iexact Hxa
    isplitl [Hp]
    · rw [Packed]
      iexists f2
      isplitr
      · ipureintro; exact hf2.2.imp p23
      · iexact Hp
    isplitl [H6]; · iexact H6
    isplitl [HR]; · iexact HR
    iexists _
    isplitr
    · ipureintro; exact hW
    · iexact HO

/-- The second stretch: the first matrix's lower rows packed and its row sent off; the second matrix's rows from 127 down, at
columns 0 … 127. -/
theorem stretch2 (w0 : BitVec 32) (fo : S1024x32896.Idx → Elt F .f32) :
    iprop(Transfers.MayWaits (tl d i) (default : HIx 1) O ∗ InA d i q xf (64 * k.val + wid i + 32) ∗ InB d i q xf (64 * k.val + wid i)
       ∗ Packed d i xf (P3 0) pV (64 * k.val + wid i) ∗ dcell d i cc0_scratch6 ∗ Row d (64 * k.val + wid i) fo
       ∗ Prev d i xf k.val qV cc0_scratch7 (64 * k.val + wid i - 32) ∗ Owed d i O W)
      ⊢ (wp frame (wpE (defs₀ (F := F)) 𝒱₀ (tl d i) none) Set.univ
          (k0_part8 i xV (Memref.isWhole_whole _) oV (Memref.isWhole_whole _) aV (Memref.isWhole_whole _) bV (Memref.isWhole_whole _) pV (Memref.isWhole_whole _) qV (Memref.isWhole_whole _)
            cc0_scratch4 cc0_scratch5 cc0_scratch6 cc0_scratch7 k w0)
          fun r => iprop(HaveA d i q xf (64 * k.val + wid i + 32) ∗ InB d i q xf (64 * k.val + wid i + 32)
            ∗ Out d i xf pV cc0_scratch6 (64 * k.val + wid i) ∗ Packed d i xf (P2 0) qV (64 * k.val + wid i + 32) ∗ dcell d i cc0_scratch7
            ∗ Was d xf k.val (64 * k.val + wid i - 32) ∗ Owed d i O W) : sProp (MM F)) := by
  rw [k0_part8_eq_skeleton]
  unfold k0_part8_skel Prev Was
  have ho35 := at2 (k0_off35_eq i k) (show _ = 64 * k.val + wid i by unfold wid; omega)
  rw [InA, InB, Packed, Row_eq d i (k0_off35_inb i k) ho35, Owed]
  rcases Classical.em (k0_cond2 k = 1#1) with hc | hc
  case' inl =>
    rw [if_pos ((cond2_iff k).1 hc), if_pos ((cond2_iff k).1 hc), Out]
    iintro ⟨#Hmw, ⟨%off, %inb, %g, %hg, Hfa, Hxa⟩, ⟨%offb, %inbb, %h, %hh, Hfb, Hxb⟩, ⟨%f, %hf, Hp⟩, H6, Ho, ⟨%offo, %inbo, %fw, %fq, %ho, H7, Hq⟩, %W', %hW', HO⟩
  case' inr =>
    rw [if_neg (mt (cond2_iff k).2 hc), if_neg (mt (cond2_iff k).2 hc), Free]
    iintro ⟨#Hmw, ⟨%off, %inb, %g, %hg, Hfa, Hxa⟩, ⟨%offb, %inbb, %h, %hh, Hfb, Hxb⟩, ⟨%f, %hf, Hp⟩, H6, Ho, ⟨HR, ⟨%fq, Hq⟩, H7⟩, %W', %hW', HO⟩
  all_goals
    sl_exec
    sl_for (inv P3 D3 (XM xf (64 * k.val + wid i)) d i bV h pV) $$ [Hfb_dst Hp]
    case region =>
      intro j a
      exact trip3 d i (XM xf (64 * _ + wid i)) aV _ bV _ h pV _ qV _ _ _ hh j a
    · iapply (inv_intro d i bV h pV f rfl hf)
      isplitl [Hfb_dst] <;> iassumption
    unfold inv
    iintro %r1 ⟨Hb, %f1, %hf1, Hp⟩
    sl_exec (disch := first | sl_exact hc | omega)
  on_goal 2 =>
    ihave HR := (row_intro d i xf inbo fw ho) $$ H7_dst
    have hW := owed_insert (s := SemLoc.dma cc0_scratch7.sem) (owed_insert (s := SemLoc.dma cc0_scratch4.sem) (owed_insert (s := SemLoc.dma cc0_scratch5.sem) hW'))
  on_goal 1 =>
    have hW := owed_insert (s := SemLoc.dma cc0_scratch4.sem) (owed_insert (s := SemLoc.dma cc0_scratch5.sem) hW')
  all_goals
    rw [t5_eq i k _ 0#32 0#32 0#32]
    sl_for (inv P1 D1 (XM xf (64 * k.val + wid i + 32)) d i aV g qV) $$ [Hfa_dst Hq]
    case region =>
      intro j a
      exact trip1 d i (XM xf (64 * _ + wid i + 32)) aV _ g bV _ qV _ pV _ _ _ _ _ hg j a
    · iapply (inv_intro d i aV g qV fq rfl fun r c hrc hcl hp => (p01 r c hrc hcl hp).elim)
      isplitl [Hfa_dst] <;> iassumption
    unfold inv
    iintro %r2 ⟨Ha, %f2, %hf2, Hq⟩
    sl_exec
    sl_step
    isplitl [Ha Hxa Hfa]
    · rw [HaveA]
      isplitl [Ha]
      · iexists g
        isplitr
        · ipureintro; exact hg
        · iexact Ha
      isplitl [Hxa]
      · iexact Hxa
      · iexact Hfa
    isplitl [Hfb Hxb]
    · iapply (inB_intro d i q xf (k0_off34_inb i k) (at3 (k0_off34_eq i k) (by unfold wid; omega)) h)
      isplitl [Hfb]
      · iexact Hfb
      · iexact Hxb
    isplitl [H6 Hp]
    · iapply (out_intro d i xf pV cc0_scratch6 (k0_off35_inb i k) ho35 fo f1 hf1.2)
      isplitl [H6]
      · iexact H6
      · iexact Hp
    isplitl [Hq]
    · rw [Packed]
      iexists f2
      isplitr
      · ipureintro; exact hf2.2.imp p12
      · iexact Hq
    isplitl [H7]; · iexact H7
    isplitl [HR]; · iexact HR
    iexists _
    isplitr
    · ipureintro; exact hW
    · iexact HO

end Stretch

end Cert.Proof.Triu
-- ==== Proof.Trip.lean ====
/-
  One trip of a tile's main loop, whole: from two matrices coming in and two rows going out to the same, two matrices on.
-/
module

public import proofs.«01_k».proof.Proof.Pair

@[expose] public section

noncomputable section

namespace Cert.Proof.Triu

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Tri

variable {F : FTy → Type} [FloatOps F]

section Trip
variable (d : Dev nD) (i : grid0.Coords) (q : PosShare TreeShare) (xf : Buf (Elt F) (xLoc d))
  (O : CellTallies nD τ sig (HIx 1)) (W : Waits sig (HIx 1)) (k : Fin k0_t1_loop.trips)

theorem NextA_pos {j : Nat} (h : j + 1 < 16) (b : Nat) : NextA d i q xf j b = InA d i q xf b := if_pos h
theorem NextA_neg {j : Nat} (h : ¬ j + 1 < 16) (b : Nat) : NextA d i q xf j b = NoA d i q xf := if_neg h
theorem NextB_pos {j : Nat} (h : j + 1 < 16) (b : Nat) : NextB d i q xf j b = InB d i q xf b := if_pos h
theorem NextB_neg {j : Nat} (h : ¬ j + 1 < 16) (b : Nat) : NextB d i q xf j b = NoB d i q xf := if_neg h

theorem trip (v1 : BitVec 32) (u : Unit) (fo : S1024x32896.Idx → Elt F .f32) :
    iprop(Transfers.MayWaits (tl d i) (default : HIx 1) O ∗ InA d i q xf (64 * k.val + wid i) ∗ InB d i q xf (64 * k.val + wid i)
       ∗ Prev d i xf k.val pV cc0_scratch6 (64 * k.val + wid i - 64) ∗ Prev d i xf k.val qV cc0_scratch7 (64 * k.val + wid i - 32)
       ∗ Row d (64 * k.val + wid i) fo ∗ Row d (64 * k.val + wid i + 32) fo ∗ Owed d i O W)
      ⊢ (wp frame (wpE (defs₀ (F := F)) 𝒱₀ (tl d i) none) Set.univ
          (k0_t1_body i xV (Memref.isWhole_whole _) oV (Memref.isWhole_whole _) aV (Memref.isWhole_whole _) bV (Memref.isWhole_whole _) pV (Memref.isWhole_whole _) qV (Memref.isWhole_whole _)
            cc0_scratch4 cc0_scratch5 cc0_scratch6 cc0_scratch7 v1 k u)
          fun r => iprop(NextA d i q xf k.val (64 * k.val + wid i + 64) ∗ NextB d i q xf k.val (64 * k.val + wid i + 64)
            ∗ Out d i xf pV cc0_scratch6 (64 * k.val + wid i) ∗ Out d i xf qV cc0_scratch7 (64 * k.val + wid i + 32)
            ∗ Was d xf k.val (64 * k.val + wid i - 64) ∗ Was d xf k.val (64 * k.val + wid i - 32) ∗ Owed d i O W) : sProp (MM F)) := by
  unfold k0_t1_body
  iintro ⟨#Hmw, HA, HB, Hp, Hq, Hr, Hr', HO⟩
  iapply (Entails.of_eq (wp_bind _ _ _ _ _ _).symm)
  ihave H1 := (stretch1 d i q xf O W k v1) $$ [HA Hp HO]
  · isplitr; · iexact Hmw
    isplitl [HA]; · iexact HA
    isplitl [Hp] <;> iassumption
  iapply (wp_wand _ _ _) $$ H1
  iintro %w0 ⟨HA, Hp, H6, Hw, HO⟩
  iapply (Entails.of_eq (wp_bind _ _ _ _ _ _).symm)
  ihave H2 := (stretch2 d i q xf O W k w0 fo) $$ [HA HB Hp H6 Hr Hq HO]
  · isplitr; · iexact Hmw
    isplitl [HA]; · iexact HA
    isplitl [HB]; · iexact HB
    isplitl [Hp]; · iexact Hp
    isplitl [H6]; · iexact H6
    isplitl [Hr]; · iexact Hr
    isplitl [Hq] <;> iassumption
  iapply (wp_wand _ _ _) $$ H2
  iintro %w1 ⟨HA, HB, Ho, Hq, H7, Hw', HO⟩
  have ho := at2 (k0_off66_eq i k) (show _ = 64 * k.val + wid i + 32 by unfold wid; omega)
  ihave Hr' := (Entails.of_eq (Row_eq d i (k0_off66_inb i k) ho fo)) $$ Hr'
  unfold HaveA InB Packed Owed
  icases HA with ⟨⟨%g, %hg, Ha⟩, Hxa, H4⟩
  icases HB with ⟨%off, %inb, %h, %hh, Hfb, Hxb⟩
  icases Hq with ⟨%f, %hf, Hq⟩
  icases HO with ⟨%W', %hW', HO⟩
  rw [t6_eq i k 0#32 0#32 0#32]
  sl_for (inv P2 D2 (XM xf (64 * k.val + wid i + 32)) d i aV g qV) $$ [Ha Hq]
  case region =>
    intro j a
    exact trip2 d i (XM xf (64 * _ + wid i + 32)) aV _ g bV _ qV _ pV _ _ _ _ _ hg j a
  · iapply (inv_intro d i aV g qV f rfl hf)
    isplitl [Ha] <;> iassumption
  unfold inv
  iintro %r1 ⟨Ha, %f1, %hf1, Hq⟩
  have hW := owed_insert (s := SemLoc.dma cc0_scratch5.sem) hW'
  rcases Classical.em (k.val + 1 < 16) with hk | hk
  case' inl =>
    have hc3 := (cond3_iff k).2 hk
    have hc4 := (cond4_iff k).2 hk
  case' inr =>
    have hc3 := mt (cond3_iff k).1 hk
    have hc4 := mt (cond4_iff k).1 hk
  all_goals
    sl_exec (disch := first | sl_exact hc3 | omega)
    rw [t7_eq i k 0#32]
    sl_for (inv P3 D3 (XM xf (64 * k.val + wid i + 32)) d i bV h qV) $$ [Hfb_dst Hq]
    case region =>
      intro j a
      exact trip3 d i (XM xf (64 * _ + wid i + 32)) aV _ bV _ h qV _ pV _ _ _ hh j a
    · iapply (inv_intro d i bV h qV f1 rfl (hf1.2.imp p23))
      isplitl [Hfb_dst] <;> iassumption
    unfold inv
    iintro %r2 ⟨Hb, %f2, %hf2, Hq⟩
    sl_exec (disch := first | sl_exact hc4 | omega)
    sl_step
  on_goal 2 =>
    isplitl [H4 Hxa]
    · iapply (Entails.of_eq (NextA_pos d i q xf hk _).symm)
      iapply (inA_intro d i q xf (k0_off55_inb i k hc3) (at3 (k0_off55_eq i k) (by unfold wid; omega)) g)
      isplitl [H4]
      · iexact H4
      · iexact Hxa
    isplitl [Hfb Hxb]
    · iapply (Entails.of_eq (NextB_pos d i q xf hk _).symm)
      iapply (inB_intro d i q xf (k0_off65_inb i k hc4) (at3 (k0_off65_eq i k) (by unfold wid; omega)) h)
      isplitl [Hfb]
      · iexact Hfb
      · iexact Hxb
  on_goal 1 =>
    isplitl [H4 Hxa Ha]
    · iapply (Entails.of_eq (NextA_neg d i q xf hk _).symm)
      rw [NoA]
      isplitl [Ha]
      · iexists g
        iexact Ha
      isplitl [Hxa]
      · iexact Hxa
      · iexact H4
    isplitl [Hfb Hxb Hb]
    · iapply (Entails.of_eq (NextB_neg d i q xf hk _).symm)
      rw [NoB]
      isplitl [Hb]
      · iexists h
        iexact Hb
      isplitl [Hxb]
      · iexact Hxb
      · iexact Hfb
  all_goals
    isplitl [Ho]; · iexact Ho
    isplitl [H7 Hq]
    · iapply (out_intro d i xf qV cc0_scratch7 (k0_off66_inb i k) ho fo f2 hf2.2)
      isplitl [H7]
      · iexact H7
      · iexact Hq
    isplitl [Hw]; · iexact Hw
    isplitl [Hw']; · iexact Hw'
    iexists _
    isplitr
    · ipureintro; exact hW
    · iexact HO

end Trip

end Cert.Proof.Triu
-- ==== Proof.Tile.lean ====
/-
  A tile's whole run: two matrices fetched, sixteen trips of the main loop, the last two rows out.
-/
module

public import proofs.«01_k».proof.Proof.Trip
public import Idealize.SL.BI.BigOpNat

@[expose] public section

noncomputable section

namespace Cert.Proof.Triu

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Tri

variable {F : FTy → Type} [FloatOps F]

section Tile
variable (d : Dev nD) (i : grid0.Coords) (q : PosShare TreeShare) (xf : Buf (Elt F) (xLoc d))
  (O : CellTallies nD τ sig (HIx 1)) (W : Waits sig (HIx 1))

/-- The two rows of the result that trip `t` of tile `w` writes. -/
def Two (d : Dev nD) (w : Nat) (f : S1024x32896.Idx → Elt F .f32) (t : Nat) : sProp (MM F) :=
  iprop(Row d (64 * t + w) f ∗ Row d (64 * t + w + 32) f)

/-- Before trip `j`: its matrix on the way (nothing after the last), the two rows before it going out, the earlier ones
    done, the later ones as they were. -/
def Main (fo : S1024x32896.Idx → Elt F .f32) (j : Nat) (_ : PUnit) : sProp (MM F) :=
  iprop((if j < 16 then InA d i q xf (64 * j + wid i) else NoA d i q xf) ∗ (if j < 16 then InB d i q xf (64 * j + wid i) else NoB d i q xf)
    ∗ Prev d i xf j pV cc0_scratch6 (64 * j + wid i - 64) ∗ Prev d i xf j qV cc0_scratch7 (64 * j + wid i - 32)
    ∗ bigSep (Finset.range (j - 1)) (Two d (wid i) (G xf)) ∗ bigSep (Finset.Ico j 16) (Two d (wid i) fo) ∗ Owed d i O W)

/-- The rows a trip waited for join those done. -/
theorem done_succ (w k : Nat) :
    iprop(bigSep (Finset.range (k - 1)) (Two d w (G xf)) ∗ Was d xf k (64 * k + w - 64) ∗ Was d xf k (64 * k + w - 32))
      ⊢ (bigSep (Finset.range (k + 1 - 1)) (Two d w (G xf)) : sProp (MM F)) := by
  unfold Was
  rcases k with _ | k
  · rw [if_neg (Nat.lt_irrefl 0), if_neg (Nat.lt_irrefl 0)]
    iintro ⟨H, -, -⟩
    iexact H
  · rw [if_pos (Nat.succ_pos k), if_pos (Nat.succ_pos k), show k + 1 + 1 - 1 = k + 1 by omega, bigSep_range_succ, show k + 1 - 1 = k by omega,
      show 64 * (k + 1) + w - 64 = 64 * k + w by omega, show 64 * (k + 1) + w - 32 = 64 * k + w + 32 by omega]
    unfold Two
    iintro ⟨H, Ha, Hb⟩
    isplitl [Ha Hb]
    · isplitl [Ha] <;> iassumption
    · iexact H

theorem main_trip (fo : S1024x32896.Idx → Elt F .f32) (v1 : BitVec 32) (k : Fin k0_t1_loop.trips) (u : PUnit) :
    iprop(Transfers.MayWaits (tl d i) (default : HIx 1) O ∗ Main d i q xf O W fo k.val u)
      ⊢ (wp frame (wpE (defs₀ (F := F)) 𝒱₀ (tl d i) none) Set.univ
          (k0_t1_body i xV (Memref.isWhole_whole _) oV (Memref.isWhole_whole _) aV (Memref.isWhole_whole _) bV (Memref.isWhole_whole _) pV (Memref.isWhole_whole _) qV (Memref.isWhole_whole _)
            cc0_scratch4 cc0_scratch5 cc0_scratch6 cc0_scratch7 v1 k u)
          fun r => Main d i q xf O W fo (k.val + 1) r : sProp (MM F)) := by
  have hk : k.val < 16 := lt_of_lt_of_le k.isLt k0_t1_abs.2.1
  unfold Main
  rw [if_pos hk, if_pos hk, bigSep_Ico_succ_bot hk]
  iintro ⟨#Hmw, HA, HB, Hp, Hq, Hd, ⟨Ht, Hl⟩, HO⟩
  unfold Two
  icases Ht with ⟨Ha, Hb⟩
  ihave H := (trip d i q xf O W k v1 u fo) $$ [HA HB Hp Hq Ha Hb HO]
  · isplitr; · iexact Hmw
    isplitl [HA]; · iexact HA
    isplitl [HB]; · iexact HB
    isplitl [Hp]; · iexact Hp
    isplitl [Hq]; · iexact Hq
    isplitl [Ha]; · iexact Ha
    isplitl [Hb] <;> iassumption
  iapply (wp_wand _ _ _) $$ H
  iintro %r ⟨HA, HB, Hp, Hq, Hw, Hw', HO⟩
  isplitl [HA]
  · iapply (Entails.of_eq (show NextA d i q xf k.val (64 * k.val + wid i + 64) = _ from by
      rw [NextA, show 64 * (k.val + 1) + wid i = 64 * k.val + wid i + 64 by omega]))
    iexact HA
  isplitl [HB]
  · iapply (Entails.of_eq (show NextB d i q xf k.val (64 * k.val + wid i + 64) = _ from by
      rw [NextB, show 64 * (k.val + 1) + wid i = 64 * k.val + wid i + 64 by omega]))
    iexact HB
  isplitl [Hp]
  · iapply (Entails.of_eq (show Out d i xf pV cc0_scratch6 (64 * k.val + wid i) = _ from by
      rw [Prev, if_pos (Nat.succ_pos _), show 64 * (k.val + 1) + wid i - 64 = 64 * k.val + wid i by omega]))
    iexact Hp
  isplitl [Hq]
  · iapply (Entails.of_eq (show Out d i xf qV cc0_scratch7 (64 * k.val + wid i + 32) = _ from by
      rw [Prev, if_pos (Nat.succ_pos _), show 64 * (k.val + 1) + wid i - 32 = 64 * k.val + wid i + 32 by omega]))
    iexact Hq
  isplitl [Hd Hw Hw']
  · iapply (done_succ d xf (wid i) k.val)
    isplitl [Hd]; · iexact Hd
    isplitl [Hw] <;> iassumption
  isplitl [Hl] <;> iassumption

theorem main_start (fo : S1024x32896.Idx → Elt F .f32) (g : aV.view.ty.Contents (Elt F)) (h : bV.view.ty.Contents (Elt F)) :
    iprop((Transfers.Flight countersEmb (tl d i) (SemLoc.dma cc0_scratch4.sem) (default : HIx 1) 1048576
        iprop((aV.view.loc (tl d i) ↦[aV.view.set]{fullShare} aV.view.writes (Elt F) g [⟨Rect.whole S128x256, (aWin (k0_off1 i) (k0_off1_inb i)).view.read (Elt F) xf⟩])
          ∗ xV.view.loc (tl d i) ↦[(aWin (k0_off1 i) (k0_off1_inb i)).view.set]{Transfers.shareTokN q 0} xf))
      ∗ (xV.view.loc (tl d i) ↦[Finset.univ \ (aWin (k0_off1 i) (k0_off1_inb i)).view.set]{Transfers.shareTokN q 0} xf)
      ∗ (Transfers.Flight countersEmb (tl d i) (SemLoc.dma cc0_scratch5.sem) (default : HIx 1) 524288
        iprop((bV.view.loc (tl d i) ↦[bV.view.set]{fullShare} bV.view.writes (Elt F) h [⟨Rect.whole S128x128, (bWin (k0_off2 i) (k0_off2_inb i)).view.read (Elt F) xf⟩])
          ∗ xV.view.loc (tl d i) ↦[(bWin (k0_off2 i) (k0_off2_inb i)).view.set]{Transfers.shareTokN q 1} xf))
      ∗ (xV.view.loc (tl d i) ↦[Finset.univ \ (bWin (k0_off2 i) (k0_off2_inb i)).view.set]{Transfers.shareTokN q 1} xf)
      ∗ Free d i pV cc0_scratch6 ∗ Free d i qV cc0_scratch7
      ∗ bigSep (Finset.range 16) (Two d (wid i) fo) ∗ owes (tl d i) O W)
    ⊢ (Main d i q xf O W fo 0 PUnit.unit : sProp (MM F)) := by
  have e : ∀ a b : Nat, 2 * a + b = 64 * 0 + (2 * a + b) := by omega
  unfold Main
  rw [if_pos (by decide), if_pos (by decide), Prev, Prev, if_neg (Nat.lt_irrefl 0), if_neg (Nat.lt_irrefl 0), Owed, Finset.range_eq_Ico]
  iintro ⟨H4, Hx0, H5, Hx1, Hp, Hq, Hr, HO⟩
  isplitl [H4 Hx0]
  · iapply (inA_intro d i q xf (k0_off1_inb i) (at3 (k0_off1_eq i) (e _ _)) g)
    isplitl [H4] <;> iassumption
  isplitl [H5 Hx1]
  · iapply (inB_intro d i q xf (k0_off2_inb i) (at3 (k0_off2_eq i) (e _ _)) h)
    isplitl [H5] <;> iassumption
  isplitl [Hp]
  · isplitr
    · iempintro
    · iexact Hp
  isplitl [Hq]
  · isplitr
    · iempintro
    · iexact Hq
  isplitr
  · rw [show Finset.range (0 - 1) = ∅ from rfl, bigSep_empty]
    iempintro
  isplitl [Hr]; · iexact Hr
  iexists W
  isplitr
  · ipureintro; exact fun p hp => .inl hp
  · iexact HO

theorem main_end (fo : S1024x32896.Idx → Elt F .f32) (r : PUnit) :
    (Main d i q xf O W fo k0_t1_loop.trips r : sProp (MM F))
      ⊢ iprop(NoA d i q xf ∗ NoB d i q xf ∗ Out d i xf pV cc0_scratch6 (64 * 15 + wid i) ∗ Out d i xf qV cc0_scratch7 (64 * 15 + wid i + 32)
        ∗ bigSep (Finset.range 15) (Two d (wid i) (G xf)) ∗ Owed d i O W) := by
  rw [show k0_t1_loop.trips = 16 by decide]
  unfold Main
  rw [if_neg (Nat.lt_irrefl 16), if_neg (Nat.lt_irrefl 16), Prev, Prev, if_pos (by decide), if_pos (by decide),
    show 64 * 16 + wid i - 64 = 64 * 15 + wid i by omega, show 64 * 16 + wid i - 32 = 64 * 15 + wid i + 32 by omega]
  iintro ⟨HA, HB, Hp, Hq, Hd, -, HO⟩
  isplitl [HA]; · iexact HA
  isplitl [HB]; · iexact HB
  isplitl [Hp]; · iexact Hp
  isplitl [Hq]; · iexact Hq
  isplitl [Hd] <;> iassumption

/-- A tile's run: from its rows at whatever they held to the same rows at the result's values. -/
theorem tile_run (fo : S1024x32896.Idx → Elt F .f32) :
    iprop(Transfers.MayWaits (tl d i) (default : HIx 1) O ∗ NoA d i q xf ∗ NoB d i q xf ∗ Free d i pV cc0_scratch6 ∗ Free d i qV cc0_scratch7
        ∗ bigSep (Finset.range 16) (Two d (wid i) fo) ∗ owes (tl d i) O W)
      ⊢ (wp frame (wpE (defs₀ (F := F)) 𝒱₀ (tl d i) none) Set.univ
          (cc0__tec_body i xV (Memref.isWhole_whole _) oV (Memref.isWhole_whole _) aV (Memref.isWhole_whole _) bV (Memref.isWhole_whole _) pV (Memref.isWhole_whole _) qV (Memref.isWhole_whole _)
            cc0_scratch4 cc0_scratch5 cc0_scratch6 cc0_scratch7)
          fun _ => iprop(NoA d i q xf ∗ NoB d i q xf ∗ Free d i pV cc0_scratch6 ∗ Free d i qV cc0_scratch7
            ∗ bigSep (Finset.range 16) (Two d (wid i) (G xf)) ∗ Owed d i O W) : sProp (MM F)) := by
  rw [cc0__tec_body_eq_skeleton]
  unfold cc0__tec_body_skel NoA NoB
  iintro ⟨#Hmw, ⟨⟨%g, Ha⟩, Hx0, H4⟩, ⟨⟨%h, Hb⟩, Hx1, H5⟩, Hp, Hq, Hr, HO⟩
  sl_exec
  sl_for (fun j u => iprop(Transfers.MayWaits (tl d i) (default : HIx 1) O ∗ Main d i q xf O W fo j u)) $$ [H4 Hx0 H5 Hx1 Hp Hq Hr HO]
  case region =>
    intro k u
    iintro ⟨#Hmw, H⟩
    ihave H' := (main_trip d i q xf O W fo _ k u) $$ [H]
    · isplitr
      · iexact Hmw
      · iexact H
    iapply (wp_wand _ _ _) $$ H'
    iintro %r H
    isplitr
    · iexact Hmw
    · iexact H
  · isplitr
    · iexact Hmw
    iapply (main_start d i q xf O W fo g h)
    isplitl [H4]; · iexact H4
    isplitl [Hx0]; · iexact Hx0
    isplitl [H5]; · iexact H5
    isplitl [Hx1]; · iexact Hx1
    isplitl [Hp]; · iexact Hp
    isplitl [Hq]; · iexact Hq
    isplitl [Hr] <;> iassumption
  iintro %r ⟨-, H⟩
  ihave H' := (main_end d i q xf O W fo r) $$ H
  icases H' with ⟨HA, HB, Hp, Hq, Hd, HO⟩
  unfold Out Owed
  icases Hp with ⟨%off6, %inb6, %fo6, %f6, %ho6, H6, Hp⟩
  icases Hq with ⟨%off7, %inb7, %fo7, %f7, %ho7, H7, Hq⟩
  icases HO with ⟨%W', %hW', HO⟩
  sl_exec
  ihave H6r := (row_intro d i xf inb6 fo6 ho6) $$ H6_dst
  ihave H7r := (row_intro d i xf inb7 fo7 ho7) $$ H7_dst
  have hW := owed_insert (s := SemLoc.dma cc0_scratch7.sem) (owed_insert (s := SemLoc.dma cc0_scratch6.sem) hW')
  sl_step
  unfold NoA NoB
  isplitl [HA]; · iexact HA
  isplitl [HB]; · iexact HB
  isplitl [Hp H6]
  · rw [Free]
    isplitl [Hp]
    · iexists f6
      iexact Hp
    · iexact H6
  isplitl [Hq H7]
  · rw [Free]
    isplitl [Hq]
    · iexists f7
      iexact Hq
    · iexact H7
  isplitl [Hd H6r H7r]
  · iapply (Entails.of_eq (bigSep_range_succ 15 _).symm)
    isplitl [H6r H7r]
    · rw [Two]
      isplitl [H6r] <;> iassumption
    · iexact Hd
  iexists _
  isplitr
  · ipureintro; exact hW
  · iexact HO

end Tile

end Cert.Proof.Triu
-- ==== Proof.Launch.lean ====
/-
  The launch: each of the 32 tiles gets a share of `x` to read and its 32 rows of the result, and brings both back, the
  rows holding the result's values. From this the program's run.
-/
module

public import proofs.«01_k».proof.Proof.Tile
public import Mathlib.Logic.Equiv.Fin.Basic

@[expose] public section

noncomputable section

namespace Cert.Proof.Triu

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Tri

variable {F : FTy → Type} [FloatOps F]

/-! ## The rows and the shares, by tile -/

theorem bigSep_fin_mul {M : Type} [URA M] (a b : Nat) (Φ : Nat → sProp M) :
    bigSep Finset.univ (fun k : Fin (a * b) => Φ k.val) = bigSep Finset.univ fun i : Fin a => bigSep Finset.univ fun j : Fin b => Φ (j.val + b * i.val) := by
  rw [bigSep_univ_equiv finProdFinEquiv, bigSep_univ_prod]; rfl

theorem bigSep_range_fin {M : Type} [URA M] (n : Nat) (Φ : Nat → sProp M) :
    bigSep (Finset.range n) Φ = bigSep Finset.univ fun k : Fin n => Φ k.val := by
  rw [← Nat.Iio_eq_range, ← Fin.map_valEmbedding_univ, bigSep_map]; rfl

/-- What is dealt to 32 tiles, dealt to 2 SparseCores of 16 tiles. -/
theorem bigSep_tiles {M : Type} [URA M] (Φ : Nat → sProp M) :
    bigSep (Finset.range 32) Φ = bigSep Finset.univ fun c : Fin 2 => bigSep Finset.univ fun s : Fin 16 => Φ (2 * s.val + c.val) := by
  rw [bigSep_range_fin, show (bigSep Finset.univ fun k : Fin 32 => Φ k.val) = _ from bigSep_fin_mul 16 2 Φ, bigSep_univ_comm]
  exact bigSep_congr fun c _ => bigSep_congr fun s _ => by rw [Nat.add_comm]

theorem rset_disjoint : ∀ a ∈ Finset.range 1024, ∀ b ∈ Finset.range 1024, a ≠ b → Disjoint (rset a) (rset b) := by
  intro a _ b _ h
  refine Finset.disjoint_left.mpr fun y ha hb => h ?_
  exact (Finset.mem_filter.mp ha).2.symm.trans (Finset.mem_filter.mp hb).2

theorem mem_rset (y : S1024x32896.Idx) : y ∈ rset (y 0).val := Finset.mem_filter.mpr ⟨Finset.mem_univ _, rfl⟩

theorem rset_cover : (Finset.range 1024).biUnion rset = Finset.univ := by
  refine Finset.eq_univ_of_forall fun y => ?_
  have h : (y 0).val < 1024 := (y 0).isLt
  rw [Finset.mem_biUnion]
  exact ⟨_, Finset.mem_range.mpr h, mem_rset y⟩

theorem out_rows (d : Dev nD) (f : S1024x32896.Idx → Elt F .f32) :
    (oLoc d ↦{fullShare} f : sProp (MM F)) = bigSep (Finset.range 1024) fun b => Row d b f := by
  unfold Row
  rw [← pointsTo_biUnion (Finset.range 1024) (ℓ := oLoc d) rset rset_disjoint, rset_cover]; try rfl

/-- The result whole is the tiles' rows of it. -/
theorem out_tiles (d : Dev nD) (f : S1024x32896.Idx → Elt F .f32) :
    (oLoc d ↦{fullShare} f : sProp (MM F)) = bigSep (Finset.range 32) fun w => bigSep (Finset.range 16) (Two d w f) := by
  rw [out_rows, bigSep_range_fin, show (bigSep Finset.univ fun k : Fin 1024 => (Row d k.val f : sProp (MM F))) = _ from bigSep_fin_mul 32 32 fun b => Row d b f,
    bigSep_univ_comm, bigSep_range_fin]
  refine bigSep_congr fun w _ => ?_
  rw [bigSep_range_fin, show (bigSep Finset.univ fun j : Fin 32 => (Row d (w.val + 32 * j.val) f : sProp (MM F))) = _ from
    bigSep_fin_mul 16 2 fun j => Row d (w.val + 32 * j) f]
  refine bigSep_congr fun t _ => ?_
  rw [bigSep_fin_two, Two]
  show (iprop(Row d (w.val + 32 * (0 + 2 * t.val)) f ∗ Row d (w.val + 32 * (1 + 2 * t.val)) f) : sProp (MM F)) = _
  rw [show w.val + 32 * (0 + 2 * t.val) = 64 * t.val + w.val by omega, show w.val + 32 * (1 + 2 * t.val) = 64 * t.val + w.val + 32 by omega]

/-- What tile `w` holds across the call. -/
def Piece (d : Dev nD) (xf : Buf (Elt F) (xLoc d)) (f : S1024x32896.Idx → Elt F .f32) (w : Nat) : sProp (MM F) :=
  iprop((xLoc d ↦{Transfers.shareTokN fullShare w} xf) ∗ bigSep (Finset.range 16) (Two d w f))

instance piece_storable (d : Dev nD) (xf : Buf (Elt F) (xLoc d)) (f : S1024x32896.Idx → Elt F .f32) (w : Nat) :
    BI.Storable (upEmb : UEmb _ (MM F)) (Piece d xf f w) := by
  unfold Piece Two Row; infer_instance

/-- `x` and the result whole are what stays of `x` with the caller and the tiles' pieces. -/
theorem pieces (d : Dev nD) (xf : Buf (Elt F) (xLoc d)) (f : S1024x32896.Idx → Elt F .f32) :
    (iprop((xLoc d ↦{fullShare} xf) ∗ oLoc d ↦{fullShare} f) : sProp (MM F))
      ⊣⊢ iprop((xLoc d ↦{Transfers.shareDrop fullShare 32} xf)
        ∗ bigSep Finset.univ fun c : Fin 2 => bigSep Finset.univ fun s : Fin 16 => Piece d xf f (2 * s.val + c.val)) := by
  rw [← bigSep_tiles (fun w => Piece d xf f w)]
  unfold Piece
  rw [bigSep_sep', ← out_tiles]
  have h : (xLoc d ↦{fullShare} xf : sProp (MM F)) ⊣⊢ _ := Transfers.pointsTo_toks_range (ℓ := xLoc d) (S := Finset.univ) (f := xf) fullShare 32
  constructor
  · iintro ⟨Hx, Ho⟩
    ihave H := h.1 $$ Hx
    icases H with ⟨Hr, Ht⟩
    isplitl [Hr]; · iexact Hr
    isplitl [Ht] <;> iassumption
  · iintro ⟨Hr, Ht, Ho⟩
    isplitl [Hr Ht]
    · iapply h.2
      isplitl [Hr] <;> iassumption
    · iexact Ho

/-! ## What the handshakes carry -/

variable (m : (ℓ : Loc nD τ sig) → Buf (Elt F) ℓ) (ρ : Dev nD → PrngReg)

def P : (K (F := F)).Pay (nD := nD) (Val := Elt F) (Name := ℕ) (U := UU) where
  st := fun q d c => match q with | 0 => bigSep Finset.univ fun s : Fin 16 => Piece d (m (xLoc d)) (m (oLoc d)) (2 * s.val + c.val)
  dn := fun q d c => match q with | 0 => bigSep Finset.univ fun s : Fin 16 => Piece d (m (xLoc d)) (G (m (xLoc d))) (2 * s.val + c.val)
  go := fun q d c s => match q with | 0 => Piece d (m (xLoc d)) (m (oLoc d)) (2 * s.val + c.val)
  td := fun q d c s => match q with | 0 => Piece d (m (xLoc d)) (G (m (xLoc d))) (2 * s.val + c.val)
  x := fun _ _ => iprop(emp)

instance P_storable : (P (F := F) m).IsStorable where
  st q d c := match q with
    | 0 => (inferInstance : BI.Storable (upEmb : UEmb _ (MM F)) (bigSep Finset.univ fun s : Fin 16 => Piece d (m (xLoc d)) (m (oLoc d)) (2 * s.val + c.val)))
  dn q d c := match q with
    | 0 => (inferInstance : BI.Storable (upEmb : UEmb _ (MM F)) (bigSep Finset.univ fun s : Fin 16 => Piece d (m (xLoc d)) (G (m (xLoc d))) (2 * s.val + c.val)))
  go q d c s := match q with | 0 => piece_storable d (m (xLoc d)) (m (oLoc d)) (2 * s.val + c.val)
  td q d c s := match q with | 0 => piece_storable d (m (xLoc d)) (G (m (xLoc d))) (2 * s.val + c.val)

/-! ## A tile's own buffers and semaphores -/

section Own
variable (d : Dev nD) (i : grid0.Coords)

/-- The tile's DMA semaphores by number. -/
abbrev own (k : Fin 4) : GSem nD τ sig := (tl d i, .dma (⟨k.val, k.isLt⟩ : DmaSem sig))

theorem own_mem (k : Fin 4) : own d i k ∈ ownCells (tl d i) :=
  mem_ownCells.mpr ⟨rfl, (show ∀ s : DmaSem sig, (SemLoc.dma s : SemLoc sig).isScoped .scVector = true by decide) _⟩

theorem own_sems :
    (ownSems0 (tl d i) : sProp (MM F))
      = iprop((dcell d i cc0_scratch4 ∗ dcell d i cc0_scratch5 ∗ dcell d i cc0_scratch6 ∗ dcell d i cc0_scratch7)
          ∗ bigSep ((ownCells (tl d i)) \ Finset.univ.image (own d i)) fun g => semVal g 0) := by
  unfold SparseCore.Cfg.ownSems0
  rw [SparseCore.bigSep_sdiff_split' (t := Finset.univ.image (own d i)) (Finset.image_subset_iff.mpr fun k _ => own_mem d i k),
    SparseCore.bigSep_image_of_injOn (fun a _ b _ h => by
      have := congrArg (fun g : GSem nD τ sig => g.2) h
      simp only [SemLoc.dma.injEq, Fin.mk.injEq] at this; exact Fin.ext this),
    show (Finset.univ : Finset (Fin 4)) = {0, 1, 2, 3} by decide,
    SparseCore.bigSep_insert' (by decide), SparseCore.bigSep_insert' (by decide), SparseCore.bigSep_insert' (by decide), bigSep_singleton]
  rfl

/-- The tile's buffer `b` as the device names it. -/
abbrev ownRef (b : Ref sig .scVector) : DevRef τ sig := (tl d i).2.devRef b

theorem ownRef_ne {a b : Ref sig .scVector} (h : a ≠ b) : ownRef d i a ≠ ownRef d i b := fun e => h (Proc.devRef_injective _ e)

/-- The tile's buffers: the four it uses, each at some contents, and the rest. -/
theorem own_bufs :
    (ownBufs (tl d i) : sProp (MM F))
      = iprop((∃ f, aV.view.loc (tl d i) ↦[aV.view.set]{fullShare} f) ∗ (∃ f, bV.view.loc (tl d i) ↦[bV.view.set]{fullShare} f)
          ∗ (∃ f, pV.view.loc (tl d i) ↦[pV.view.set]{fullShare} f) ∗ (∃ f, qV.view.loc (tl d i) ↦[qV.view.set]{fullShare} f)
          ∗ bigSep (((((ownRefs (τ := τ) (tl d i).2).erase (ownRef d i cc0_scratch0)).erase (ownRef d i cc0_scratch1)).erase (ownRef d i cc0_scratch2)).erase (ownRef d i cc0_scratch3))
              fun b => iprop(∃ f, ((d, b) : Loc nD τ sig) ↦{fullShare} f)) := by
  have mem0 : ownRef d i cc0_scratch0 ∈ ownRefs (τ := τ) (tl d i).2 := SparseCore.Cfg.mem_ownRefs_of_owner rfl
  have mem1 : ownRef d i cc0_scratch1 ∈ ownRefs (τ := τ) (tl d i).2 := SparseCore.Cfg.mem_ownRefs_of_owner rfl
  have mem2 : ownRef d i cc0_scratch2 ∈ ownRefs (τ := τ) (tl d i).2 := SparseCore.Cfg.mem_ownRefs_of_owner rfl
  have mem3 : ownRef d i cc0_scratch3 ∈ ownRefs (τ := τ) (tl d i).2 := SparseCore.Cfg.mem_ownRefs_of_owner rfl
  unfold SparseCore.Cfg.ownBufs
  rw [View.set_whole, View.set_whole, View.set_whole, View.set_whole]
  refine (SparseCore.bigSep_erase' (mem0)).trans ?_
  rw [SparseCore.bigSep_erase' (Finset.mem_erase.mpr ⟨ownRef_ne d i (by decide), mem1⟩),
    SparseCore.bigSep_erase' (Finset.mem_erase.mpr ⟨ownRef_ne d i (by decide), Finset.mem_erase.mpr ⟨ownRef_ne d i (by decide), mem2⟩⟩),
    SparseCore.bigSep_erase' (Finset.mem_erase.mpr ⟨ownRef_ne d i (by decide), Finset.mem_erase.mpr ⟨ownRef_ne d i (by decide),
      Finset.mem_erase.mpr ⟨ownRef_ne d i (by decide), mem3⟩⟩⟩)]

/-- A tile's share of `x` as two parts to lend to its transfers, and the rest. -/
theorem cut (q : PosShare TreeShare) (f : Buf (Elt F) (xLoc d)) :
    (xLoc d ↦{q} f : sProp (MM F)) ⊣⊢ iprop((xLoc d ↦{Transfers.shareDrop q 2} f) ∗ (xLoc d ↦{Transfers.shareTokN q 1} f) ∗ xLoc d ↦{Transfers.shareTokN q 0} f) := by
  have h : (xLoc d ↦{q} f : sProp (MM F)) ⊣⊢ _ := Transfers.pointsTo_toks_range (ℓ := xLoc d) (S := Finset.univ) (f := f) q 2
  rwa [bigSep_range_succ, show Finset.range 1 = {0} by decide, bigSep_singleton] at h

theorem tile_body (hF : (K (F := F)).Facts) (xf : Buf (Elt F) (xLoc d)) (fo : S1024x32896.Idx → Elt F .f32)
    (O : CellTallies nD τ sig (HIx 1)) (W : Waits sig (HIx 1)) (hO : ∀ g, O g none = 0) :
    iprop(levAts (K (F := F)).L (K (F := F)).lev ∗ emp ∗ Piece d xf fo (wid i)
        ∗ scopedBufs (tl d i) ∗ scopedSems0 (tl d i) ∗ owes (tl d i) O W)
      ⊢ (wp frame (wpE (defs₀ (F := F)) 𝒱₀ (tl d i) none) Set.univ
          (cc0__tec_body i xV (Memref.isWhole_whole _) oV (Memref.isWhole_whole _) aV (Memref.isWhole_whole _) bV (Memref.isWhole_whole _) pV (Memref.isWhole_whole _) qV (Memref.isWhole_whole _)
            cc0_scratch4 cc0_scratch5 cc0_scratch6 cc0_scratch7)
          fun _ => iprop(Piece d xf (G xf) (wid i) ∗ scopedBufs (tl d i) ∗ scopedSems0 (tl d i)
            ∗ ∃ W', ⌜∀ p ∈ W', p ∈ W ∨ p.2 = none ∨ p.2 = some (0 : Fin 1)⌝ ∗ owes (tl d i) O W') : sProp (MM F)) := by
  rw [(K (F := F)).scopedBufs_V hF d ((i 0).castLE hcore0) ((i 1).castLE hsub0),
    SparseCore.Cfg.scopedSems0_V (Val := Elt F) d ((i 0).castLE hcore0) ((i 1).castLE hsub0), own_sems, own_bufs]
  unfold Piece
  iintro ⟨#Hlv, -, ⟨Hx, Ho⟩, ⟨Ha, Hb, Hp, Hq, Hbufs⟩, ⟨⟨H4, H5, H6, H7⟩, Hsems⟩, HO⟩
  ihave Hmw := (show levAts (K (F := F)).L (K (F := F)).lev ⊢ Transfers.MayWaits (tl d i) (default : HIx 1) O from
    (K (F := F)).mayWaits_none (thr := tl d i) hO) $$ Hlv
  ihave Hx' := (cut d (Transfers.shareTokN fullShare (wid i)) xf).1 $$ Hx
  icases Hx' with ⟨Hxr, Hx1, Hx0⟩
  ihave H := (tile_run d i (Transfers.shareTokN fullShare (wid i)) xf O W fo) $$ [Ha Hb Hp Hq H4 H5 H6 H7 Hx0 Hx1 Ho HO]
  · unfold NoA NoB Free
    isplitr; · iexact Hmw
    isplitl [Ha Hx0 H4]
    · isplitl [Ha]; · iexact Ha
      isplitl [Hx0]; · iexact Hx0
      iexact H4
    isplitl [Hb Hx1 H5]
    · isplitl [Hb]; · iexact Hb
      isplitl [Hx1]; · iexact Hx1
      iexact H5
    isplitl [Hp H6]
    · isplitl [Hp] <;> iassumption
    isplitl [Hq H7]
    · isplitl [Hq] <;> iassumption
    isplitl [Ho] <;> iassumption
  iapply (wp_wand _ _ _) $$ H
  unfold NoA NoB Free Owed
  iintro %_ ⟨⟨Ha, Hx0, H4⟩, ⟨Hb, Hx1, H5⟩, ⟨Hp, H6⟩, ⟨Hq, H7⟩, Ho, ⟨%W', %hW', HO⟩⟩
  isplitl [Hxr Hx0 Hx1 Ho]
  · isplitl [Hxr Hx0 Hx1]
    · iapply (cut d (Transfers.shareTokN fullShare (wid i)) xf).2
      isplitl [Hxr]; · iexact Hxr
      isplitl [Hx1]; · iexact Hx1
      iexact Hx0
    · iexact Ho
  isplitl [Ha Hb Hp Hq Hbufs]
  · isplitl [Ha]; · iexact Ha
    isplitl [Hb]; · iexact Hb
    isplitl [Hp]; · iexact Hp
    isplitl [Hq] <;> iassumption
  isplitl [H4 H5 H6 H7 Hsems]
  · isplitl [H4 H5 H6 H7]
    · isplitl [H4]; · iexact H4
      isplitl [H5]; · iexact H5
      isplitl [H6] <;> iassumption
    · iexact Hsems
  iexists W'
  isplitr
  · ipureintro; exact fun p hp => (hW' p hp).imp id .inl
  · iexact HO

end Own

/-! ## The launch theorem's obligations -/

def coords (c : Fin (grid0.bound 0)) (s : Fin (grid0.bound 1)) : grid0.Coords :=
  fun | 0 => c | 1 => s | ⟨_ + 2, h⟩ => absurd h (Nat.not_lt.2 (Nat.le_add_left _ _))

theorem defs_tile (c : Fin τ.nSC) (s : Fin τ.nSub) :
    defs₀ (F := F) (.scVector c s) 0 ()
      = SparseCore.onTile hcore0 hsub0 (fun c s => cc0__tec_body (coords c s) xV (Memref.isWhole_whole _) oV (Memref.isWhole_whole _)
          aV (Memref.isWhole_whole _) bV (Memref.isWhole_whole _) pV (Memref.isWhole_whole _) qV (Memref.isWhole_whole _)
          cc0_scratch4 cc0_scratch5 cc0_scratch6 cc0_scratch7) ⟨⟩ c s := rfl

theorem tileObl (hF : (K (F := F)).Facts) : (K (F := F)).TileObl (D (F := F)) 𝒱 (P m) v₀ 0 := by
  intro d c s O W hO _ _
  simp only [show (P m).ox = fun _ _ => 0 from rfl, add_zero]
  have h : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs_tile]; simp only [SparseCore.onTile, h, and_self, ↓reduceDIte]
  exact tile_body d (coords ⟨_, h.1⟩ ⟨_, h.2⟩) hF (m (xLoc d)) (m (oLoc d)) O W hO

theorem vecSplit : (K (F := F)).VecSplit' (P m) 0 := by
  intro d c
  show (bigSep Finset.univ fun s : Fin 16 => Piece d (m (xLoc d)) (m (oLoc d)) (2 * s.val + c.val)) ⊢ |={Set.univ}=> iprop(
      (bigSep Finset.univ fun s : Fin 16 => Piece d (m (xLoc d)) (m (oLoc d)) (2 * s.val + c.val))
      ∗ ((bigSep Finset.univ fun s : Fin 16 => Piece d (m (xLoc d)) (G (m (xLoc d))) (2 * s.val + c.val))
          -∗ bigSep Finset.univ fun s : Fin 16 => Piece d (m (xLoc d)) (G (m (xLoc d))) (2 * s.val + c.val)))
  iintro H; imodintro
  isplitl [H]; · iexact H
  iintro H
  iexact H

def u₀ : UU := (initOf (K (F := F)).hsCells (K (F := F)).hsToks, 1)

theorem bigSep_nothing {I : Type} (s : Finset I) : (bigSep s fun _ => iprop(emp)) = (iprop(emp) : sProp (MM F)) := bigSep_emp_const s

theorem hu₀ : (ownU (u₀ (F := F)) : sProp (MM F))
    ⊢ |={Set.univ}=> iprop(BI.own ((EH (F := F)) (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The program -/

theorem bufs_eq (d : Dev nD) (W : (b : Ref sig .tc) → Buf (Elt F) ((d.tc : Thread nD τ).loc b)) :
    (unscopedBufs d W : sProp (MM F)) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

theorem st_eq (d : Dev nD) : (bigSep Finset.univ fun c : Fin ((K (F := F)).nCore 0) => (P m).st 0 d c)
    = (bigSep Finset.univ fun c : Fin 2 => bigSep Finset.univ fun s : Fin 16 => Piece d (m (xLoc d)) (m (oLoc d)) (2 * s.val + c.val)) := rfl
theorem dn_eq (d : Dev nD) : (bigSep Finset.univ fun c : Fin ((K (F := F)).nCore 0) => (P m).dn 0 d c)
    = (bigSep Finset.univ fun c : Fin 2 => bigSep Finset.univ fun s : Fin 16 => Piece d (m (xLoc d)) (G (m (xLoc d))) (2 * s.val + c.val)) := rfl

abbrev FIN (d : Dev nD) : sProp (MM F) := iprop((xLoc d ↦{fullShare} m (xLoc d)) ∗ oLoc d ↦{fullShare} G (m (xLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [bufs_eq]
  simp only [main, wp_bind, wp_pure]
  iintro ⟨#Hctx, Hst, ⟨Hb, Hxo, Hts, -⟩, -⟩
  ihave Hxo' := (pieces d (m (xLoc d)) (m (oLoc d))).1 $$ Hxo
  icases Hxo' with ⟨Hr, Hps⟩
  iapply ((K (F := F)).wp_run (D (F := F)) 𝒱 (EH := EH) (P := P m) κ d 0) $$ [Hst Hps Hr Hb Hts]
  isplitr; · iexact Hctx
  isplitl [Hst]; · iexact Hst
  isplitl [Hps]
  · rw [st_eq]
    iexact Hps
  iintro ⟨Hst, Hdn⟩
  ihave Hdn' := (Entails.of_eq (dn_eq m d)) $$ Hdn
  ihave Hxo := (pieces d (m (xLoc d)) (G (m (xLoc d)))).2 $$ [Hr Hdn']
  · isplitl [Hr] <;> iassumption
  imodintro
  isplitl [Hst]; · iexact Hst
  isplitl [Hxo]; · iexact Hxo
  isplitl [Hb] <;> iassumption

def fq (d : Dev nD) (s' : Phys nD τ sig (Elt F)) : Prop := s'.mem.mem (oLoc d) = G (m (xLoc d)) ∧ s'.mem.mem (xLoc d) = m (xLoc d)

theorem hfin (d : Dev nD) (s' : Phys nD τ sig (Elt F)) : iprop(FIN m d ∗ SI s') ⊢ (⌜fq m d s'⌝ : sProp (MM F)) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := G (m (xLoc d)))) $$ [HSI Ho]
  · isplitl [HSI] <;> iassumption
  icases H with %h2
  ipureintro
  exact ⟨funext fun y : Idx (oLoc d) => h2 y (Finset.mem_univ _), funext fun y : Idx (xLoc d) => h1 y (Finset.mem_univ _)⟩

/-- The final memory: the result is `G` of the argument, the argument is unchanged, every semaphore is at zero. -/
def QC : PUnit × MemSt nD τ sig (Elt F) → Prop :=
  fun r => (∀ c : Dev nD, r.2.mem (oLoc c) = G (m (xLoc c)) ∧ r.2.mem (xLoc c) = m (xLoc c)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Triu
-- ==== Proof.Count.lean ====
/-
  The mask of the upper triangle, counted.

  The reference finds the triangle's entries by counting.  Position `p` of the flattened 256 × 256 mask stands for entry
  `(p / 256, p % 256)` and is set when that entry lies on or above the diagonal.  The entry at position `t` of the packed
  triangle is the mask's set position number `t`, and that is the number of positions `p` whose running count (the set
  positions up to and including `p`) is at most `t`.  This file has that fact.
-/
module

public import proofs.«01_k».proof.Proof.Tri
public import Mathlib.Data.Nat.Count
public import Mathlib.Algebra.BigOperators.Group.List.Basic
public import Mathlib.Tactic.Ring

@[expose] public section

namespace Cert.Proof.Tri

/-- Position `p` of the flattened mask is set. -/
def Above (p : Nat) : Prop := p / 256 ≤ p % 256

instance : DecidablePred Above := fun p => inferInstanceAs (Decidable (p / 256 ≤ p % 256))

theorem above_iff {r c : Nat} (hc : c < 256) : Above (256 * r + c) ↔ r ≤ c := by
  unfold Above
  rw [show (256 * r + c) / 256 = r by omega, show (256 * r + c) % 256 = c by omega]

/-- Within row `r`, the columns from the diagonal on are counted one by one. -/
theorem count_in_row (r k : Nat) (hk : k ≤ 256) : Nat.count Above (256 * r + k) = Nat.count Above (256 * r) + (k - r) := by
  induction k with
  | zero => simp
  | succ k ih =>
    rw [← Nat.add_assoc, Nat.count_succ, ih (by omega)]
    have h := above_iff (r := r) (c := k) (by omega)
    by_cases hr : r ≤ k
    · rw [if_pos (h.2 hr)]; omega
    · rw [if_neg fun q => hr (h.1 q)]; omega

/-- The set positions before row `r`. -/
theorem count_row (r : Nat) (hr : r ≤ 256) : Nat.count Above (256 * r) = base r + r := by
  induction r with
  | zero => simp
  | succ r ih =>
    rw [show 256 * (r + 1) = 256 * r + 256 by ring, count_in_row r 256 le_rfl, ih (by omega), base_succ]
    omega

/-- Before entry `(r, c)` of the triangle there are `base r + c` set positions. -/
theorem count_at {r c : Nat} (hrc : r ≤ c) (hc : c < 256) : Nat.count Above (256 * r + c) = base r + c := by
  rw [count_in_row r c (by omega), count_row r (by omega)]
  omega

/-- The mask has 32896 set positions. -/
theorem count_all : Nat.count Above 65536 = 32896 := by
  rw [show 65536 = 256 * 256 from rfl, count_row 256 le_rfl, base_256]

/-- The set positions up to and including `p`. -/
def seen (p : Nat) : Nat := Nat.count Above (p + 1)

theorem seen_le {p : Nat} (hp : p < 65536) : seen p ≤ 32896 :=
  count_all ▸ Nat.count_monotone Above (show p + 1 ≤ 65536 by omega)

/-- At most `t` positions have been seen exactly before entry `t`'s own position. -/
theorem seen_le_iff {t : Nat} (ht : t < 32896) (p : Nat) : seen p ≤ t ↔ p < 256 * row t + col t := by
  obtain ⟨hrc, hc, hb⟩ := row_col_spec ht
  have hP : Nat.count Above (256 * row t + col t) = t := (count_at hrc hc).trans hb
  constructor
  · intro h
    by_contra hn
    have h1 : Nat.count Above (256 * row t + col t + 1) ≤ seen p := Nat.count_monotone Above (by omega)
    rw [Nat.count_succ, hP, if_pos ((above_iff hc).2 hrc)] at h1
    omega
  · intro h
    have h1 : seen p ≤ Nat.count Above (256 * row t + col t) := Nat.count_monotone Above (show p + 1 ≤ _ by omega)
    omega

/-- The numbers below `P`, counted below `n`. -/
theorem count_lt (P n : Nat) : Nat.count (· < P) n = min n P := by
  induction n with
  | zero => simp
  | succ n ih =>
    rw [Nat.count_succ, ih]
    by_cases h : n < P
    · rw [if_pos h]; omega
    · rw [if_neg h]; omega

/-- One more value of the count: its own positions are added. -/
theorem count_step (c : Nat → Nat) (n k : Nat) :
    Nat.count (fun p => c p < k) n + Nat.count (fun p => c p = k) n = Nat.count (fun p => c p < k + 1) n := by
  induction n with
  | zero => simp
  | succ n ih =>
    simp only [Nat.count_succ]
    have h : (if c n < k then 1 else 0) + (if c n = k then 1 else 0) = (if c n < k + 1 then 1 else 0) := by
      split_ifs <;> omega
    omega

/-- How many positions below `n` have count `x`, added up over the `x` below `k`: the positions whose count is below `k`. -/
theorem sum_hist (c : Nat → Nat) (n k : Nat) :
    ((List.range k).map fun x => Nat.count (fun p => c p = x) n).sum = Nat.count (fun p => c p < k) n := by
  induction k with
  | zero => simp
  | succ k ih => rw [List.range_succ, List.map_append, List.sum_append, ih, List.map_singleton, List.sum_singleton, count_step]

/-- The mask's bits below `n`, added up. -/
theorem sum_bits (n : Nat) : ((List.range n).map fun p => if Above p then 1 else 0).sum = Nat.count Above n := by
  induction n with
  | zero => simp
  | succ n ih => rw [List.range_succ, List.map_append, List.sum_append, ih, List.map_singleton, List.sum_singleton, Nat.count_succ]

/-- The histogram of the running count, added up through `t`, is the position in the flattened mask of the triangle's entry `t`. -/
theorem hist_sum {t : Nat} (ht : t < 32896) :
    ((List.range (t + 1)).map fun x => Nat.count (fun p => seen p = x) 65536).sum = 256 * row t + col t := by
  obtain ⟨hrc, hc, -⟩ := row_col_spec ht
  rw [sum_hist]
  simp only [Nat.lt_succ_iff, seen_le_iff ht]
  have h := row_lt ht
  exact (count_lt _ _).trans (by omega)

end Cert.Proof.Tri
-- ==== Proof.RefOps.lean ====
/-
  Two operations of the reference, read at one index: a scatter that adds ones (a histogram), and a gather of single
  entries by a pair of indices.
-/
module

public import Idealize.ShloMosaic.Lib.Routing.Ops
public import Idealize.ShloMosaic.Lib.Routing.OpsPair
public import Idealize.ShloMosaic.Lib.Routing.Words

@[expose] public section

namespace Cert.Proof.RefOps

open Idealize.ShloMosaic Idealize.ShloMosaic.ValueIdx Idealize.ShloMosaic.Routing

/-- Each of `M` updates has one index word; update `p` starts at the value of its word. -/
theorem scatter_start {N M : Nat} (d : ScatterDims (shape1 N) (shape2 M 1) (shape1 M)) (hw : d.updateWindowDims = [])
    (hi : d.insertedWindowDims = [0]) (hs : d.scatterDimsToOperandDims = [0]) (hv : d.indexVectorDim = 1)
    (idx : IVec (shape2 M 1) 32) (p : Fin M) :
    d.start (ix1 p) idx 0 + (d.window (ix1 p) 0 : Int) = (idx (ix2 p (0 : Fin 1))).toInt := by
  obtain ⟨uw, iw, sd, iv, wf⟩ := d
  dsimp only at hw hi hs hv
  subst hw hi hs hv
  have hz : ∀ X : Fin 1, (ix1 p X).val = p.val := fun X => by rw [Subsingleton.elim X 0]
  unfold ScatterDims.start ScatterDims.window
  rw [dif_pos (List.mem_singleton.2 rfl), dif_neg (by simp [Shape.kept])]
  rw [Int.ofNat_zero, Int.add_zero]
  congr 2
  funext b
  apply Fin.ext
  match b with
  | ⟨0, _⟩ => exact hz _
  | ⟨1, _⟩ => rfl

/-- Ones added at the positions `c p`: entry `x` counts the `p` with `c p = x`. A position outside the operand is dropped. -/
theorem scatter_ones {N M : Nat} (d : ScatterDims (shape1 N) (shape2 M 1) (shape1 M)) (hw : d.updateWindowDims = [])
    (hi : d.insertedWindowDims = [0]) (hs : d.scatterDimsToOperandDims = [0]) (hv : d.indexVectorDim = 1)
    (x0 : IVec (shape1 N) 32) (h0 : ∀ j, x0 j = 0#32) (upd : IVec (shape1 M) 32) (hu : ∀ j, upd j = 1#32)
    (idx : IVec (shape2 M 1) 32) (c : Nat → Nat) (hc : ∀ p : Fin M, c p.val < 2 ^ 31)
    (hidx : ∀ p : Fin M, idx (ix2 p (0 : Fin 1)) = BitVec.ofNat 32 (c p.val)) (x : Fin N) :
    Host.scatter d IntOp.addi x0 idx upd (ix1 x) = BitVec.ofNat 32 (Nat.count (fun p => c p = x.val) M) := by
  rw [scatter_at]
  have hit : ∀ n : Fin (shape1 M).numel, d.resultIdx? ((shape1 M).rowMajor.symm n) idx = some (ix1 x) ↔ c n.val = x.val := by
    intro n
    rw [symm1, resultIdx?_ix1, scatter_start d hw hi hs hv, hidx, StableHlo.Predicate.toInt_ofNat_small _ (hc _)]
    exact Int.ofNat_inj
  have key : ∀ (l : List (Fin (shape1 M).numel)) (z : Nat),
      l.foldl (fun a n => if d.resultIdx? ((shape1 M).rowMajor.symm n) idx = some (ix1 x) then IntOp.addi a (upd ((shape1 M).rowMajor.symm n)) else a) (BitVec.ofNat 32 z)
        = BitVec.ofNat 32 (z + l.countP fun n => decide (c n.val = x.val)) := by
    intro l
    induction l with
    | nil => intro z; rfl
    | cons n l ih =>
      intro z
      rw [List.foldl_cons, List.countP_cons]
      by_cases h : c n.val = x.val
      · rw [if_pos ((hit n).2 h), hu, if_pos (decide_eq_true h)]
        have e : IntOp.addi (BitVec.ofNat 32 z) 1#32 = BitVec.ofNat 32 (z + 1) := (BitVec.ofNat_add z 1).symm
        rw [e, ih, Nat.add_assoc, Nat.add_comm 1]
      · rw [if_neg fun q => h ((hit n).1 q), ih, if_neg (by simpa using h), Nat.add_zero]
  rw [h0, show (0#32 : BitVec 32) = BitVec.ofNat 32 0 from rfl, key, Nat.zero_add, countP_finRange _ fun p => c p = x.val, numel1]

/-- That histogram's running sum. -/
theorem scatter_ones_cumsum {N Nm1 M : Nat} (hN : Nm1 + 1 = N) (d : ScatterDims (shape1 N) (shape2 M 1) (shape1 M)) (hw : d.updateWindowDims = [])
    (hi : d.insertedWindowDims = [0]) (hs : d.scatterDimsToOperandDims = [0]) (hv : d.indexVectorDim = 1)
    (x0 : IVec (shape1 N) 32) (h0 : ∀ j, x0 j = 0#32) (upd : IVec (shape1 M) 32) (hu : ∀ j, upd j = 1#32)
    (idx : IVec (shape2 M 1) 32) (c : Nat → Nat) (hc : ∀ p : Fin M, c p.val < 2 ^ 31)
    (hidx : ∀ p : Fin M, idx (ix2 p (0 : Fin 1)) = BitVec.ofNat 32 (c p.val)) (init : IVec shape0 32) (hinit : init ix0 = 0#32)
    (h : (shape1 N).ReduceWindows (![N] : Fin 1 → Nat) ![1] ![Nm1] ![0] (shape1 N)) (hp : 0 < shape0.numel) (t : Fin N) :
    Host.reduceWindow IntOp.addi ![N] ![1] ![Nm1] ![0] (Host.scatter d IntOp.addi x0 idx upd) init h hp (ix1 t)
      = BitVec.ofNat 32 ((List.range (t.val + 1)).map fun x => Nat.count (fun p => c p = x) M).sum :=
  cumsum1 hN _ (fun x => Nat.count (fun p => c p = x) M) (scatter_ones d hw hi hs hv x0 h0 upd hu idx c hc hidx) init hinit h hp t

/-- `x[:, i, j]` at the index words' values: entry `(b, t)` of the result is entry `(b, r, c)` of the operand. -/
theorem gather_pairs {α : Type} {A B C n : Nat} (d : GatherDims (shape3 A B C) (shape2 n 2) (shape2 A n)) (ho : d.offsetDims = [0])
    (hc : d.collapsedSliceDims = [1, 2]) (hb : d.operandBatchingDims = []) (hs : d.startIndexMap = [1, 2]) (hv : d.indexVectorDim = 1)
    (x : (shape3 A B C).Idx → α) (idx : IVec (shape2 n 2) 32) (b : Fin A) (t : Fin n) (r : Fin B) (c : Fin C)
    (hr : idx (ix2 t (0 : Fin 2)) = BitVec.ofNat 32 r.val) (hcc : idx (ix2 t (1 : Fin 2)) = BitVec.ofNat 32 c.val)
    (hB : B < 2 ^ 31) (hC : C < 2 ^ 31) : Host.gather d x idx (ix2 b t) = x (ix3 b r c) := by
  have s1 : d.sliceSizes 1 = 1 := d.slice_collapsed 1 (by rw [hc]; simp)
  have s2 : d.sliceSizes 2 = 1 := d.slice_collapsed 2 (by rw [hc]; simp)
  obtain ⟨od, cd, ob, sb, sm, iv, sl, wf⟩ := d
  dsimp only at ho hc hb hs hv s1 s2
  subst ho hc hb hs hv
  unfold Host.gather
  refine congrArg x (funext fun a => Fin.ext ?_)
  have hr' := r.isLt
  have hc' := c.isLt
  unfold GatherDims.operandIdx
  dsimp only
  rw [GatherDims.batchCoord_eq_zero _ _ _ (List.not_mem_nil), Nat.add_zero]
  match a with
  | ⟨0, _⟩ =>
    unfold GatherDims.start GatherDims.offCoord
    rw [dif_neg (by simp), Nat.zero_add]
    rfl
  | ⟨1, _⟩ =>
    unfold GatherDims.start GatherDims.offCoord
    rw [dif_pos (by simp), dif_neg (by simp [GatherDims.sKept, Shape.kept]), Nat.add_zero]
    have e : ∀ j : (shape2 n 2).Idx, j = ix2 t (0 : Fin 2) → min (idx j).toInt.toNat (B - sl 1) = r.val := by
      rintro _ rfl
      rw [hr, StableHlo.Predicate.toInt_ofNat_small _ (by omega), s1]
      omega
    refine e _ (funext fun k => Fin.ext ?_)
    match k with
    | ⟨0, _⟩ => rfl
    | ⟨1, _⟩ => rfl
  | ⟨2, _⟩ =>
    unfold GatherDims.start GatherDims.offCoord
    rw [dif_pos (by simp), dif_neg (by simp [GatherDims.sKept, Shape.kept]), Nat.add_zero]
    have e : ∀ j : (shape2 n 2).Idx, j = ix2 t (1 : Fin 2) → min (idx j).toInt.toNat (C - sl 2) = c.val := by
      rintro _ rfl
      rw [hcc, StableHlo.Predicate.toInt_ofNat_small _ (by omega), s2]
      omega
    refine e _ (funext fun k => Fin.ext ?_)
    match k with
    | ⟨0, _⟩ => rfl
    | ⟨1, _⟩ => rfl

end Cert.Proof.RefOps
-- ==== Proof.RefValue.lean ====
/-
  The reference's result, read at an index.

  The reference flattens a mask of the upper triangle, takes its running count, counts how often each value of the
  running count occurs, and adds those numbers up again; that gives each triangle entry's position in the flattened
  matrix (Proof/Count.lean). Its row and column are the quotient and the remainder by 256, and the result gathers the
  matrix entries at them.
-/
module

public import proofs.«01_k».proof.Proof.Count
public import proofs.«01_k».proof.Proof.RefOps
public import proofs.«01_k».proof.Proof.Gen.ReferenceIdeal.Run
public import Idealize.ShloMosaic.Lib.IdealHost
public import Idealize.ShloMosaic.Lib.Pointwise.Select

@[expose] public section

noncomputable section

namespace Cert.Proof.RefValue

open Cert.ReferenceIdeal Cert.ReferenceIdeal.Gen Cert.ReferenceIdeal.Value
open Idealize.ShloMosaic hiding ix0 ix1 ix2 ix3
open Idealize.ShloMosaic.ValueIdx Idealize.ShloMosaic.Routing
open Idealize.ShloMosaic.WordCmp
open Cert.Proof.Tri Cert.Proof.RefOps

/-! ## The mask -/

theorem pred_toInt : ∀ i : Fin 256, (BitVec.ofNat 32 i.val + 4294967295#32).toInt = (i.val : Int) - 1 := by decide

/-- An entry below the diagonal is 0, the others are 1. -/
theorem below_iff (i j : Fin 256) :
    IntOp.cmpi .sge (IntOp.addi (BitVec.ofNat 32 i.val) 4294967295#32) (BitVec.ofNat 32 j.val) = BitVec.ofBool (decide (j.val < i.val)) := by
  rw [cmpi_sge_eq]
  refine congrArg BitVec.ofBool (decide_eq_decide.2 ?_)
  have hj := j.isLt
  rw [show IntOp.addi (BitVec.ofNat 32 i.val) 4294967295#32 = BitVec.ofNat 32 i.val + 4294967295#32 from rfl, pred_toInt,
    StableHlo.Predicate.toInt_ofNat_small _ (by omega)]
  omega

theorem une_zero : FloatOps.cmpf (F := Ideal) (φ := .f32) .une (FloatOps.ofBits .f32 0x00000000#32) (FloatOps.ofBits .f32 0x00000000#32) = 0#1 := by
  show BitVec.ofBool (decide (_ ≠ _)) = _
  simp

theorem une_one : FloatOps.cmpf (F := Ideal) (φ := .f32) .une (FloatOps.ofBits .f32 0x3F800000#32) (FloatOps.ofBits .f32 0x00000000#32) = 1#1 := by
  show BitVec.ofBool (decide (Ideal.ofBits .f32 0x3F800000#32 ≠ Ideal.ofBits .f32 0x00000000#32)) = _
  rw [Ideal.ofBits_one_f32, Ideal.ofBits_zero_f32]
  simp

variable (V : Valuation τ sig (Elt Ideal))

/-- An entry of a mask made the reference's way: ones, zeroed where the row less one is at least the column, flattened and compared
    with zero. -/
theorem mask_entry {A B n : Nat} (h1 : shape0.BroadcastsInDim (shape1 n) (![] : Fin 0 → Fin (shape1 n).rank))
    (h2 : shape0.BroadcastsInDim (shape2 A B) (![] : Fin 0 → Fin (shape2 A B).rank)) (hc : (shape2 A B).ShapeCasts (shape1 n))
    (k : IVec shape0 32) (z o z' : FVec Ideal shape0 .f32) (i : Fin A) (j : Fin B) (p : Fin n) (hp : p.val = i.val * B + j.val) :
    cmpf .une (shapeCast (shape1 n) (select (cmpi .sge (addi (iotaInDim (shape2 A B) 32 0) (broadcastInDim (shape2 A B) ![] h2 k)) (iotaInDim (shape2 A B) 32 1))
        (broadcastInDim (shape2 A B) ![] h2 z) (broadcastInDim (shape2 A B) ![] h2 o)) hc) (broadcastInDim (shape1 n) ![] h1 z') (ix1 p)
      = FloatOps.cmpf .une (Scalar.select (IntOp.cmpi .sge (IntOp.addi (BitVec.ofNat 32 i.val) (k ix0)) (BitVec.ofNat 32 j.val)) (z ix0) (o ix0)) (z' ix0) := by
  show FloatOps.cmpf .une (shapeCast (shape1 n) _ hc (ix1 p)) (broadcastInDim (shape1 n) ![] h1 z' (ix1 p)) = _
  rw [cast21 _ hc i j p hp, bc0]
  show FloatOps.cmpf .une (Scalar.select (IntOp.cmpi .sge (IntOp.addi (BitVec.ofNat 32 i.val) (broadcastInDim (shape2 A B) ![] h2 k (ix2 i j))) (BitVec.ofNat 32 j.val))
    (broadcastInDim (shape2 A B) ![] h2 z (ix2 i j)) (broadcastInDim (shape2 A B) ![] h2 o (ix2 i j))) _ = _
  rw [bc0, bc0, bc0]

theorem mask_bit (i j : Fin 256) :
    FloatOps.cmpf (F := Ideal) (φ := .f32) .une (Scalar.select (IntOp.cmpi .sge (IntOp.addi (BitVec.ofNat 32 i.val) 4294967295#32) (BitVec.ofNat 32 j.val))
      (FloatOps.ofBits .f32 0x00000000#32) (FloatOps.ofBits .f32 0x3F800000#32)) (FloatOps.ofBits .f32 0x00000000#32) = BitVec.ofBool (decide (i.val ≤ j.val)) := by
  rw [below_iff, select_decide]
  by_cases h : j.val < i.val
  · rw [if_pos h, une_zero, decide_eq_false (by omega)]; rfl
  · rw [if_neg h, une_one, decide_eq_true (by omega)]; rfl

theorem mask_at (p : Fin 65536) : res_main_v4 V (ix1 p) = BitVec.ofBool (decide (Above p.val)) := by
  have hp := p.isLt
  have hi : p.val / 256 < 256 := by omega
  have hj : p.val % 256 < 256 := by omega
  unfold res_main_v4
  exact (mask_entry (A := 256) (B := 256) (n := 65536) bcast_S_S65536 bcast_S_S256x256 shapeCasts_S256x256_S65536 (constantI shape0 32 4294967295#32)
    (constant shape0 .f32 0x00000000#32) (constant shape0 .f32 0x3F800000#32) (constant shape0 .f32 0x00000000#32) ⟨p.val / 256, hi⟩ ⟨p.val % 256, hj⟩ p
    (Nat.div_add_mod' p.val 256).symm).trans (mask_bit ⟨p.val / 256, hi⟩ ⟨p.val % 256, hj⟩)

/-- The mask widened to words. -/
theorem bit_at (p : Fin 65536) :
    extui 32 (res_main_v4 V : IVec S65536 1) natLt_1_32 (ix1 p) = BitVec.ofNat 32 (if Above p.val then 1 else 0) := by
  show (res_main_v4 V (ix1 p)).setWidth 32 = _
  rw [mask_at]
  exact setWidth_ofBool _

/-! ## The counts -/

/-- The running count of the mask. -/
theorem v5_at (p : Fin 65536) : res_main_v5 V (ix1 p) = BitVec.ofNat 32 (seen p.val) := by
  unfold res_main_v5
  refine (cumsum1 (N := 65536) (Nm1 := 65535) rfl _ (fun p => if Above p then 1 else 0) (bit_at V) _ rfl _ _ p).trans ?_
  rw [sum_bits]
  rfl

/-- The running count as a position; it is not negative, so it is taken as it is. -/
theorem wrap_at (p : Fin 65536) :
    broadcastInDim S65536x1 ![0] bcast_S65536_S65536x1_0 (select (cmpi .slt (res_main_v5 V) (broadcastInDim S65536 ![] bcast_S_S65536 (constantI S_ 32 0#32))) (addi (res_main_v5 V) (broadcastInDim S65536 ![] bcast_S_S65536 (constantI S_ 32 32896#32))) (res_main_v5 V) : IVec S65536 32) (ix2 p (0 : Fin 1))
      = BitVec.ofNat 32 (seen p.val) := by
  have h := seen_le p.isLt
  refine (bcCol (n := 65536) _ _ p).trans ?_
  refine (wrap_of_lt (res_main_v5 V (ix1 p)) _ ?_).trans (v5_at V p)
  rw [v5_at, BitVec.toNat_ofNat]
  omega

/-- The position of entry `t` of the triangle in the flattened matrix. -/
theorem v15_at (t : Fin 32896) : res_main_v15 V (ix1 t) = BitVec.ofNat 32 (256 * row t.val + col t.val) := by
  unfold res_main_v15
  exact (scatter_ones_cumsum (N := 32896) (Nm1 := 32895) (M := 65536) rfl scatter_S32896_S65536x1_S65536_n_0_0_1 rfl rfl rfl rfl _ (fun _ => rfl) _
    (fun _ => rfl) _ seen (fun p => lt_of_le_of_lt (seen_le p.isLt) (by norm_num)) (wrap_at V) _ rfl _ _ t).trans
    (congrArg (BitVec.ofNat 32) (hist_sum t.isLt))

/-- Is a position at or past a total that is the same for all of them? -/
theorem past_entry {N : Nat} (h1 : (shape1 1).BroadcastsInDim (shape1 N) (![0] : Fin 1 → Fin (shape1 N).rank))
    (h2 : shape0.BroadcastsInDim (shape1 1) (![] : Fin 0 → Fin (shape1 1).rank)) (tot : IVec shape0 32) (t : Fin N) :
    cmpi .sge (iotaInDim (shape1 N) 32 0) (broadcastInDim (shape1 N) ![0] h1 (broadcastInDim (shape1 1) ![] h2 tot)) (ix1 t)
      = IntOp.cmpi .sge (BitVec.ofNat 32 t.val) (tot ix0) := by
  have e : ∀ j, broadcastInDim (shape1 N) ![0] h1 (broadcastInDim (shape1 1) ![] h2 tot) j = tot ix0 := fun j => by
    unfold broadcastInDim
    exact congrArg tot (eq_ix0 _)
  exact congrArg (IntOp.cmpi .sge (BitVec.ofNat 32 t.val)) (e (ix1 t))

/-- The mask's total. -/
theorem total_at : Host.reduce IntOp.addi (extui 32 (res_main_v4 V : IVec S65536 1) natLt_1_32) (constantI S_ 32 0#32) reducesTo_S65536_S_d0 h_S_ ix0
    = BitVec.ofNat 32 32896 := by
  refine (reduce_sum (N := 65536) _ (fun p => if Above p then 1 else 0) (bit_at V) reducesTo_S65536_S_d0 h_S_).trans ?_
  rw [sum_bits, count_all]

/-- No entry of the result is past the end of the triangle. -/
theorem v25_at (t : Fin 32896) : res_main_v25 V (ix1 t) = 0#1 := by
  have ht := t.isLt
  unfold res_main_v25
  refine (past_entry (N := 32896) bcast_S1_S32896_0 bcast_S_S1 _ t).trans ?_
  rw [total_at, cmpi_sge_ofNat (w := 32) (by omega) (by norm_num), decide_eq_false (by omega)]
  rfl

/-! ## Row and column -/

/-- From a position `256 r + c` the reference's quotient by `d`, then the remainder by 256; `d` is 256 for the row, 1 for the column. -/
theorem quot_rem {N : Nat} (hb : shape0.BroadcastsInDim (shape1 N) (![] : Fin 0 → Fin (shape1 N).rank)) (past : IVec (shape1 N) 1)
    (pos z : IVec (shape1 N) 32) (t : Fin N) (p d : Nat) (hpast : past (ix1 t) = 0#1) (hpos : pos (ix1 t) = BitVec.ofNat 32 p)
    (hp : p < 2 ^ 31) (hd : 0 < d) (hd' : d < 2 ^ 31) :
    select past z (pyRem hb (pyDiv hb pos (constantI shape0 32 (BitVec.ofNat 32 d))) (constantI shape0 32 256#32)) (ix1 t) = BitVec.ofNat 32 (p / d % 256) := by
  show Scalar.select (past (ix1 t)) _ _ = _
  rw [hpast, select_of_eq_zero rfl]
  exact pyRem_ap hb _ _ (ix1 t) (pyDiv_ap hb pos _ (ix1 t) hpos rfl hp hd hd') rfl (lt_of_le_of_lt (Nat.div_le_self p d) hp) (by norm_num) (by norm_num)

theorem v26_eq : res_main_v26 V = select (res_main_v25 V) (broadcastInDim S32896 ![] bcast_S_S32896 (id (constantI S_ 32 0#32)))
    (pyRem bcast_S_S32896 (pyDiv bcast_S_S32896 (res_main_v15 V) (constantI shape0 32 (BitVec.ofNat 32 256))) (constantI shape0 32 256#32)) := by
  unfold res_main_v26 res_main_call4_v4 res_main_call4_v2 res_main_call4_v0 res_main_call3_v2 res_main_call3_v0 pyRem pyDiv divGuard
  generalize res_main_v15 V = w
  generalize res_main_v25 V = b
  rfl

theorem v27_eq : res_main_v27 V = select (res_main_v25 V) (broadcastInDim S32896 ![] bcast_S_S32896 (id (constantI S_ 32 0#32)))
    (pyRem bcast_S_S32896 (pyDiv bcast_S_S32896 (res_main_v15 V) (constantI shape0 32 (BitVec.ofNat 32 1))) (constantI shape0 32 256#32)) := by
  unfold res_main_v27 res_main_call6_v4 res_main_call6_v2 res_main_call6_v0 res_main_call5_v2 res_main_call5_v0 pyRem pyDiv divGuard
  generalize res_main_v15 V = w
  generalize res_main_v25 V = b
  rfl

theorem v26_at (t : Fin 32896) : res_main_v26 V (ix1 t) = BitVec.ofNat 32 (row t.val) := by
  have hr := row_lt t.isLt
  have hc := col_lt t.isLt
  rw [v26_eq]
  refine (quot_rem (N := 32896) _ _ _ _ t _ 256 (v25_at V t) (v15_at V t) (by omega) (by norm_num) (by norm_num)).trans (congrArg _ ?_)
  omega

theorem v27_at (t : Fin 32896) : res_main_v27 V (ix1 t) = BitVec.ofNat 32 (col t.val) := by
  have hr := row_lt t.isLt
  have hc := col_lt t.isLt
  rw [v27_eq]
  refine (quot_rem (N := 32896) _ _ _ _ t _ 1 (v25_at V t) (v15_at V t) (by omega) (by norm_num) (by norm_num)).trans (congrArg _ ?_)
  omega

/-! ## The gather -/

/-- A column of indices below 256, wrapped if negative: none is. -/
theorem column_at (v : IVec S32896 32) (k : Nat) (hk : k < 256) (t : Fin 32896) (hv : v (ix1 t) = BitVec.ofNat 32 k) :
    broadcastInDim S32896x1 ![0] bcast_S32896_S32896x1_0 (select (cmpi .slt v (broadcastInDim S32896 ![] bcast_S_S32896 (constantI S_ 32 0#32))) (addi v (broadcastInDim S32896 ![] bcast_S_S32896 (constantI S_ 32 256#32))) v) (ix2 t (0 : Fin 1))
      = BitVec.ofNat 32 k := by
  refine (bcCol (n := 32896) _ _ t).trans ?_
  refine (wrap_of_lt (v (ix1 t)) _ ?_).trans hv
  rw [hv, BitVec.toNat_ofNat]
  omega

theorem pair_left (a b : IVec S32896x1 32) (t : Fin 32896) :
    concatenate S32896x2 1 [⟨S32896x1, a⟩, ⟨S32896x1, b⟩] concatenates_S32896x1_S32896x1_S32896x2_d1 (ix2 t (0 : Fin 2)) = a (ix2 t (0 : Fin 1)) :=
  concatenate_pair_apply_left 1 a b _ (ix2 t (0 : Fin 2)) rfl _ fun k => by match k with | ⟨0, _⟩ => rfl | ⟨1, _⟩ => rfl

theorem pair_right (a b : IVec S32896x1 32) (t : Fin 32896) :
    concatenate S32896x2 1 [⟨S32896x1, a⟩, ⟨S32896x1, b⟩] concatenates_S32896x1_S32896x1_S32896x2_d1 (ix2 t (1 : Fin 2)) = b (ix2 t (0 : Fin 1)) :=
  concatenate_pair_apply_right 1 a b _ (ix2 t (1 : Fin 2)) rfl rfl _ (fun k hk => by match k with | ⟨0, _⟩ => rfl | ⟨1, _⟩ => exact absurd rfl hk) rfl

/-- Entry `(b, t)` of the reference's result is matrix `b`'s entry `(row t, col t)`. -/
theorem result_at (x : S1024x256x256.Idx → Elt Ideal .f32) (b : Fin 1024) (t : Fin 32896) :
    Host.gather gather_S1024x256x256_S32896x2_S1024x32896_0_12_n_n_12_1_102411 x
        (concatenate S32896x2 1 [⟨S32896x1, broadcastInDim S32896x1 ![0] bcast_S32896_S32896x1_0 (select (cmpi .slt (res_main_v26 V) (broadcastInDim S32896 ![] bcast_S_S32896 (constantI S_ 32 0#32))) (addi (res_main_v26 V) (broadcastInDim S32896 ![] bcast_S_S32896 (constantI S_ 32 256#32))) (res_main_v26 V))⟩,
          ⟨S32896x1, broadcastInDim S32896x1 ![0] bcast_S32896_S32896x1_0 (select (cmpi .slt (res_main_v27 V) (broadcastInDim S32896 ![] bcast_S_S32896 (constantI S_ 32 0#32))) (addi (res_main_v27 V) (broadcastInDim S32896 ![] bcast_S_S32896 (constantI S_ 32 256#32))) (res_main_v27 V))⟩]
          concatenates_S32896x1_S32896x1_S32896x2_d1) (ix2 b t)
      = x (ix3 b (⟨row t.val, row_lt t.isLt⟩ : Fin 256) (⟨col t.val, col_lt t.isLt⟩ : Fin 256)) :=
  gather_pairs (A := 1024) (B := 256) (C := 256) (n := 32896) _ rfl rfl rfl rfl rfl x _ b t ⟨row t.val, row_lt t.isLt⟩ ⟨col t.val, col_lt t.isLt⟩
    ((pair_left _ _ t).trans (column_at _ _ (row_lt t.isLt) t (v26_at V t)))
    ((pair_right _ _ t).trans (column_at _ _ (col_lt t.isLt) t (v27_at V t))) (by norm_num) (by norm_num)

end Cert.Proof.RefValue
-- ==== Proof.lean ====
/-
  The claims, put together: the kernel's run (Proof/Launch.lean), the reference's run (generated) and its result read at
  an index (Proof/RefValue.lean). Both results are `G` of the argument: row `b` is matrix `b`'s upper triangle, row by row.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.RefValue
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  (θ_run Cert.KernelIdeal.defs _ _).mono (fun _ h => ⟨fun c => (h.1 c).2, h.2⟩) (Triu.run_main (F := Bits) m ρ)

theorem frame_kernelIdeal : Cert.quiescent_KernelIdeal := fun m ρ _ =>
  (θ_run Cert.KernelIdeal.defs _ _).mono (fun _ h => ⟨fun c => (h.1 c).2, h.2⟩) (Triu.run_main (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- `G` at an entry. -/
theorem G_at (x : Cert.ReferenceIdeal.S1024x256x256.Idx → Elt Ideal .f32) (b : Fin 1024) (t : Fin 32896) :
    Triu.G x (ValueIdx.ix2 b t) = x (ValueIdx.ix3 b (⟨Tri.row t.val, Tri.row_lt t.isLt⟩ : Fin 256) (⟨Tri.col t.val, Tri.col_lt t.isLt⟩ : Fin 256)) :=
  (Triu.XM_of (xf := x) (x := ValueIdx.ix3 b (⟨Tri.row t.val, Tri.row_lt t.isLt⟩ : Fin 256) (⟨Tri.col t.val, Tri.col_lt t.isLt⟩ : Fin 256))
    (b := b.val) (r := Tri.row t.val) (c := Tri.col t.val) rfl rfl rfl).symm

theorem algebraic : Cert.algebraic_KernelIdeal_ReferenceIdeal := by
  intro m g m' g' _ hagree
  refine ⟨fun c => Triu.G (m (Triu.xLoc c)), (θ_run Cert.KernelIdeal.defs _ _).mono (fun _ h c => h.1 c) (Triu.run_main (F := Ideal) m g),
    (θ_run Cert.ReferenceIdeal.defs _ _).mono (fun r h c => ⟨?_, (h c).2⟩) (Cert.ReferenceIdeal.Value.run m' g')⟩
  refine (h c).1.trans (funext fun y => ?_)
  obtain ⟨b, t, rfl⟩ : ∃ (b : Fin 1024) (t : Fin 32896), y = ValueIdx.ix2 b t := ⟨y 0, y 1, ValueIdx.eq_ix2 y⟩
  refine (RefValue.result_at (StableHlo.launchContents m' c) _ b t).trans ?_
  refine Eq.trans ?_ (G_at (m (Triu.xLoc c)) b t).symm
  exact congrFun (hagree c) _

theorem claim : Cert.Claim :=
  ⟨Cert.Kernel.Gen.facts, Cert.KernelIdeal.Gen.facts, Cert.ReferenceIdeal.Gen.facts, frame_kernel, frame_kernelIdeal, frame_referenceIdeal, trivial, algebraic⟩

end Cert.Proof

end
